-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_ids_ok [hPre_ids_ok : Cert.Pre_ids_ok.Facts] (m : (ℓ : Loc Cert.KernelIdeal.nD Cert.KernelIdeal.τ Cert.KernelIdeal.sig) → Buf (Elt Ideal) ℓ) : Prop :=
  ∀ c : Dev Cert.KernelIdeal.nD,
    (Cert.Pre_ids_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_ok [hPre_ids_ok : Cert.Pre_ids_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_ids_ok [hKernelIdeal : Cert.KernelIdeal.Facts] [hPre_ids_ok : Cert.Pre_ids_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_ids_ok [hReferenceIdeal : Cert.ReferenceIdeal.Facts] [hPre_ids_ok : Cert.Pre_ids_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_ids_ok [hKernelIdeal : Cert.KernelIdeal.Facts] [hReferenceIdeal : Cert.ReferenceIdeal.Facts] [hPre_ids_ok : Cert.Pre_ids_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_ids_ok : Cert.Pre_ids_ok.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_ids_ok (hKernelIdeal := hKernelIdeal) (hPre_ids_ok := hPre_ids_ok)
    ∧ quiescent_ReferenceIdeal (hReferenceIdeal := hReferenceIdeal)
    ∧ quiescent_ReferenceIdeal_pre_ids_ok (hReferenceIdeal := hReferenceIdeal) (hPre_ids_ok := hPre_ids_ok)
    ∧ preserves_Kernel_KernelIdeal
    ∧ algebraic_KernelIdeal_ReferenceIdeal_pre_ids_ok (hKernelIdeal := hKernelIdeal) (hReferenceIdeal := hReferenceIdeal) (hPre_ids_ok := hPre_ids_ok)
-- ==== Pre_ids_in_range.lean ====
abbrev S320000x128 : Shape := ⟨2, ![320000, 128]⟩
abbrev S320000 : Shape := ⟨1, ![320000]⟩
abbrev S4096 : Shape := ⟨1, ![4096]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S320000 : S_.BroadcastsInDim S320000 (![] : Fin 0 → Fin S320000.rank)
  reducesTo_S320000_S_d0 : S320000.ReducesTo [0] S_
  h_S_ : 0 < S_.numel

variable [Facts]

def fn {F : FTy → Type} [FloatOps F] (main_arg0 : FVec F S320000x128 .f32) (main_arg1 : IVec S320000 32) (main_arg2 : IVec S4096 32) (main_arg3 : FVec F S128x64 .f32) (main_arg4 : FVec F S64 .f32) (main_arg5 : FVec F S64x64 .f32) (main_arg6 : FVec F S64 .f32) : IVec S_ 1 :=
  let main_c : IVec S_ 32 := constantI S_ 32 0#32
  let main_v0 : IVec S320000 32 := broadcastInDim S320000 ![] bcast_S_S320000 main_c
  let main_v1 : IVec S320000 1 := cmpi .sge main_arg1 main_v0
  let main_c_0 : IVec S_ 32 := constantI S_ 32 4096#32
  let main_v2 : IVec S320000 32 := broadcastInDim S320000 ![] bcast_S_S320000 main_c_0
  let main_v3 : IVec S320000 1 := cmpi .slt main_arg1 main_v2
  let main_v4 : IVec S320000 1 := andi main_v1 main_v3
  let main_c_1 : IVec S_ 1 := constantI S_ 1 1#1
  let main_v5 : IVec S_ 1 := (fun x v => Host.reduce IntOp.andi x v reducesTo_S320000_S_d0 h_S_) main_v4 main_c_1
  main_v5
-- ==== Pre_ids_ok.lean ====
abbrev S320000x128 : Shape := ⟨2, ![320000, 128]⟩
abbrev S320000 : Shape := ⟨1, ![320000]⟩
abbrev S4096 : Shape := ⟨1, ![4096]⟩
abbrev S128x64 : Shape := ⟨2, ![128, 64]⟩
abbrev S64 : Shape := ⟨1, ![64]⟩
abbrev S64x64 : Shape := ⟨2, ![64, 64]⟩
abbrev S_ : Shape := ⟨0, ![]⟩
abbrev S319999 : Shape := ⟨1, ![319999]⟩

class Facts : Prop where
  bcast_S_S320000 : S_.BroadcastsInDim S320000 (![] : Fin 0 → Fin S320000.rank)
  reducesTo_S320000_S_d0 : S320000.ReducesTo [0] S_
  h_S_ : 0 < S_.numel
  slices_S320000_S319999_0 : S320000.Slices ![0] S319999
  slices_S320000_S319999_1 : S320000.Slices ![1] S319999
  reducesTo_S319999_S_d0 : S319999.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_v10 : IVec S_ 1) (main_v16 : IVec S_ 1) : IVec S_ 1 :=
  let main_v17 : IVec S_ 1 := andi main_v10 main_v16
  main_v17

def fn {F : FTy → Type} [FloatOps F] (main_arg0 : FVec F S320000x128 .f32) (main_arg1 : IVec S320000 32) (main_arg2 : IVec S4096 32) (main_arg3 : FVec F S128x64 .f32) (main_arg4 : FVec F S64 .f32) (main_arg5 : FVec F S64x64 .f32) (main_arg6 : FVec F S64 .f32) : IVec S_ 1 :=
  let main_c : IVec S_ 32 := constantI S_ 32 0#32
  let main_v0 : IVec S320000 32 := broadcastInDim S320000 ![] bcast_S_S320000 main_c
  let main_v1 : IVec S320000 1 := cmpi .sge main_arg1 main_v0
  let main_c_0 : IVec S_ 32 := constantI S_ 32 4096#32
  let main_v2 : IVec S320000 32 := broadcastInDim S320000 ![] bcast_S_S320000 main_c_0
  let main_v3 : IVec S320000 1 := cmpi .slt main_arg1 main_v2
  let main_v4 : IVec S320000 1 := andi main_v1 main_v3
  let main_c_1 : IVec S_ 1 := constantI S_ 1 1#1
  let main_v5 : IVec S_ 1 := (fun x v => Host.reduce IntOp.andi x v reducesTo_S320000_S_d0 h_S_) main_v4 main_c_1
  let main_v6 : IVec S319999 32 := (extractStridedSlice S319999 ![0] · slices_S320000_S319999_0) main_arg1
  let main_v7 : IVec S319999 32 := (extractStridedSlice S319999 ![1] · slices_S320000_S319999_1) main_arg1
  let main_v8 : IVec S319999 1 := cmpi .sle main_v6 main_v7
  let main_c_2 : IVec S_ 1 := constantI S_ 1 1#1
  let main_v9 : IVec S_ 1 := (fun x v => Host.reduce IntOp.andi x v reducesTo_S319999_S_d0 h_S_) main_v8 main_c_2
  let main_v10 : IVec S_ 1 := andi main_v5 main_v9
  let main_c_3 : IVec S_ 32 := constantI S_ 32 0#32
  let main_v11 : IVec S4096 32 := broadcastInDim S4096 ![] bcast_S_S4096 main_c_3
  let main_v12 : IVec S4096 1 := cmpi .sge main_arg2 main_v11
  let main_c_4 : IVec S_ 32 := constantI S_ 32 64#32
  let main_v13 : IVec S4096 32 := broadcastInDim S4096 ![] bcast_S_S4096 main_c_4
  let main_v14 : IVec S4096 1 := cmpi .slt main_arg2 main_v13
  let main_v15 : IVec S4096 1 := andi main_v12 main_v14
  let main_c_5 : IVec S_ 1 := constantI S_ 1 1#1
  let main_v16 : IVec S_ 1 := (fun x v => Host.reduce IntOp.andi x v reducesTo_S4096_S_d0 h_S_) main_v15 main_c_5
  fn_part1 (F := F) main_v10 main_v16
-- ==== Kernel.lean ====
abbrev S320000x128 : Shape := ⟨2, ![320000, 128]⟩
abbrev S320000 : Shape := ⟨1, ![320000]⟩
abbrev S4096 : Shape := ⟨1, ![4096]⟩
abbrev S128x64 : Shape := ⟨2, ![128, 64]⟩
abbrev S64 : Shape := ⟨1, ![64]⟩
abbrev S64x64 : Shape := ⟨2, ![64, 64]⟩
abbrev S1x4096 : Shape := ⟨2, ![1, 4096]⟩
abbrev S125x1x2560 : Shape := ⟨3, ![125, 1, 2560]⟩
abbrev S64x1 : Shape := ⟨2, ![64, 1]⟩
abbrev S4352x64 : Shape := ⟨2, ![4352, 64]⟩
abbrev S1x1x2560 : Shape := ⟨3, ![1, 1, 2560]⟩
abbrev S2560x128 : Shape := ⟨2, ![2560, 128]⟩
abbrev S64x2560 : Shape := ⟨2, ![64, 2560]⟩
abbrev S2560 : Shape := ⟨1, ![2560]⟩
abbrev S1x2560 : Shape := ⟨2, ![1, 2560]⟩
abbrev S1 : Shape := ⟨1, ![1]⟩
abbrev S1x1 : Shape := ⟨2, ![1, 1]⟩
abbrev S64x2559 : Shape := ⟨2, ![64, 2559]⟩
abbrev S1x2559 : Shape := ⟨2, ![1, 2559]⟩
abbrev S64x2 : Shape := ⟨2, ![64, 2]⟩
abbrev S64x2558 : Shape := ⟨2, ![64, 2558]⟩
abbrev S1x2 : Shape := ⟨2, ![1, 2]⟩
abbrev S1x2558 : Shape := ⟨2, ![1, 2558]⟩
abbrev S64x4 : Shape := ⟨2, ![64, 4]⟩
abbrev S64x2556 : Shape := ⟨2, ![64, 2556]⟩
abbrev S1x4 : Shape := ⟨2, ![1, 4]⟩
abbrev S1x2556 : Shape := ⟨2, ![1, 2556]⟩
abbrev S64x8 : Shape := ⟨2, ![64, 8]⟩
abbrev S64x2552 : Shape := ⟨2, ![64, 2552]⟩
abbrev S1x8 : Shape := ⟨2, ![1, 8]⟩
abbrev S1x2552 : Shape := ⟨2, ![1, 2552]⟩
abbrev S64x16 : Shape := ⟨2, ![64, 16]⟩
abbrev S64x2544 : Shape := ⟨2, ![64, 2544]⟩
abbrev S1x16 : Shape := ⟨2, ![1, 16]⟩
abbrev S1x2544 : Shape := ⟨2, ![1, 2544]⟩
abbrev S64x32 : Shape := ⟨2, ![64, 32]⟩
abbrev S64x2528 : Shape := ⟨2, ![64, 2528]⟩
abbrev S1x32 : Shape := ⟨2, ![1, 32]⟩
abbrev S1x2528 : Shape := ⟨2, ![1, 2528]⟩
abbrev S64x2496 : Shape := ⟨2, ![64, 2496]⟩
abbrev S1x64 : Shape := ⟨2, ![1, 64]⟩
abbrev S1x2496 : Shape := ⟨2, ![1, 2496]⟩
abbrev S64x128 : Shape := ⟨2, ![64, 128]⟩
abbrev S64x2432 : Shape := ⟨2, ![64, 2432]⟩
abbrev S1x128 : Shape := ⟨2, ![1, 128]⟩
abbrev S1x2432 : Shape := ⟨2, ![1, 2432]⟩
abbrev S64x256 : Shape := ⟨2, ![64, 256]⟩
abbrev S64x2304 : Shape := ⟨2, ![64, 2304]⟩
abbrev S1x256 : Shape := ⟨2, ![1, 256]⟩
abbrev S1x2304 : Shape := ⟨2, ![1, 2304]⟩
abbrev S64x512 : Shape := ⟨2, ![64, 512]⟩
abbrev S64x2048 : Shape := ⟨2, ![64, 2048]⟩
abbrev S1x512 : Shape := ⟨2, ![1, 512]⟩
abbrev S1x2048 : Shape := ⟨2, ![1, 2048]⟩
abbrev S64x1024 : Shape := ⟨2, ![64, 1024]⟩
abbrev S64x1536 : Shape := ⟨2, ![64, 1536]⟩
abbrev S1x1024 : Shape := ⟨2, ![1, 1024]⟩
abbrev S1x1536 : Shape := ⟨2, ![1, 1536]⟩
abbrev S256x2560 : Shape := ⟨2, ![256, 2560]⟩
abbrev S256x64 : Shape := ⟨2, ![256, 64]⟩
abbrev S4096x64 : Shape := ⟨2, ![4096, 64]⟩
abbrev S8192x64 : Shape := ⟨2, ![8192, 64]⟩
abbrev S1024x64 : Shape := ⟨2, ![1024, 64]⟩
abbrev S128x4096 : Shape := ⟨2, ![128, 4096]⟩
abbrev S128x1 : Shape := ⟨2, ![128, 1]⟩
abbrev S128x4095 : Shape := ⟨2, ![128, 4095]⟩
abbrev S128x2 : Shape := ⟨2, ![128, 2]⟩
abbrev S128x4094 : Shape := ⟨2, ![128, 4094]⟩
abbrev S128x4 : Shape := ⟨2, ![128, 4]⟩
abbrev S128x4092 : Shape := ⟨2, ![128, 4092]⟩
abbrev S128x8 : Shape := ⟨2, ![128, 8]⟩
abbrev S128x4088 : Shape := ⟨2, ![128, 4088]⟩
abbrev S128x16 : Shape := ⟨2, ![128, 16]⟩
abbrev S128x4080 : Shape := ⟨2, ![128, 4080]⟩
abbrev S128x32 : Shape := ⟨2, ![128, 32]⟩
abbrev S128x4064 : Shape := ⟨2, ![128, 4064]⟩
abbrev S128x4032 : Shape := ⟨2, ![128, 4032]⟩
abbrev S128x128 : Shape := ⟨2, ![128, 128]⟩
abbrev S128x3968 : Shape := ⟨2, ![128, 3968]⟩
abbrev S128x256 : Shape := ⟨2, ![128, 256]⟩
abbrev S128x3840 : Shape := ⟨2, ![128, 3840]⟩
abbrev S128x512 : Shape := ⟨2, ![128, 512]⟩
abbrev S128x3584 : Shape := ⟨2, ![128, 3584]⟩
abbrev S128x1024 : Shape := ⟨2, ![128, 1024]⟩
abbrev S128x3072 : Shape := ⟨2, ![128, 3072]⟩
abbrev S128x2048 : Shape := ⟨2, ![128, 2048]⟩
abbrev S1024x4096 : Shape := ⟨2, ![1024, 4096]⟩
abbrev S64x128x64 : Shape := ⟨3, ![64, 128, 64]⟩

abbrev nBuf : Space → Nat
  | .hbm => 18
  | .vmem => 16
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S4096, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x4096, .i32⟩
  | .hbm, ⟨8, _⟩ => ⟨S125x1x2560, .i32⟩
  | .hbm, ⟨9, _⟩ => ⟨S64x1, .f32⟩
  | .hbm, ⟨10, _⟩ => ⟨S64x1, .f32⟩
  | .hbm, ⟨11, _⟩ => ⟨S4352x64, .f32⟩
  | .hbm, ⟨12, _⟩ => ⟨S4096x64, .f32⟩
  | .hbm, ⟨13, _⟩ => ⟨S1x4096, .i32⟩
  | .hbm, ⟨14, _⟩ => ⟨S8192x64, .f32⟩
  | .hbm, ⟨15, _⟩ => ⟨S8192x64, .f32⟩
  | .hbm, ⟨16, _⟩ => ⟨S64x128x64, .f32⟩
  | .hbm, ⟨17, _⟩ => ⟨S64x128x64, .f32⟩
  | .local _ .vmem, ⟨0, _⟩ => ⟨S1x1x2560, .i32⟩
  | .local _ .vmem, ⟨1, _⟩ => ⟨S1x1x2560, .i32⟩
  | .local _ .vmem, ⟨2, _⟩ => ⟨S2560x128, .f32⟩
  | .local _ .vmem, ⟨3, _⟩ => ⟨S2560x128, .f32⟩
  | .local _ .vmem, ⟨4, _⟩ => ⟨S128x64, .f32⟩
  | .local _ .vmem, ⟨5, _⟩ => ⟨S64x1, .f32⟩
  | .local _ .vmem, ⟨6, _⟩ => ⟨S64x64, .f32⟩
  | .local _ .vmem, ⟨7, _⟩ => ⟨S64x1, .f32⟩
  | .local _ .vmem, ⟨8, _⟩ => ⟨S4352x64, .f32⟩
  | .local _ .vmem, ⟨9, _⟩ => ⟨S4096x64, .f32⟩
  | .local _ .vmem, ⟨10, _⟩ => ⟨S1x4096, .i32⟩
  | .local _ .vmem, ⟨11, _⟩ => ⟨S1x4096, .i32⟩
  | .local _ .vmem, ⟨12, _⟩ => ⟨S1024x64, .f32⟩
  | .local _ .vmem, ⟨13, _⟩ => ⟨S1024x64, .f32⟩
  | .local _ .vmem, ⟨14, _⟩ => ⟨S1024x64, .f32⟩
  | .local _ .vmem, ⟨15, _⟩ => ⟨S1024x64, .f32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![125], ![false]⟩

def k0_off1 (v26 : BitVec 32) : Fin 2 → Nat :=
  let v179 : Index := Scalar.indexCast v26
  let c0_44 : Index := 0#32
  ![v179.toNat, 0]

def k0_chk1 (v26 : BitVec 32) : Prop :=
  (∀ a, (k0_off1 v26) a + S256x64.size a ≤ S4352x64.size a)
theorem k0_off1_inb : ∀ (v26 : BitVec 32) (k0_hw1 : k0_chk1 v26), ∀ a, (k0_off1 v26) a + S256x64.size a ≤ S4352x64.size a := fun v26 k0_hw1 => k0_hw1

@[reducible] def k0_t1_loop (v26 : BitVec 32) (v30 : BitVec 32) : Scf.Loop 32 :=
  let c256_i32 : BitVec 32 := 256#32
  let v185 : BitVec 32 := Scalar.addi v26 c256_i32
  let c1_i32 : BitVec 32 := 1#32
  let v186 : BitVec 32 := Scalar.addi v30 c1_i32
  let v187 : BitVec 32 := Scalar.subi v186 v185
  let c1_i32_47 : BitVec 32 := 1#32
  let v189 : BitVec 32 := Scalar.divsi v187 c1_i32_47
  let v190 : BitVec 32 := Scalar.muli v189 c1_i32_47
  let v191 : BitVec 32 := Scalar.addi v185 v190
  let c1_i32_48 : BitVec 32 := 1#32
  ⟨v185, v191, c1_i32_48⟩

def k0_off2 (v26 : BitVec 32) (v30 : BitVec 32) (k0_t1 : Fin (k0_t1_loop v26 v30).trips) : Fin 2 → Nat :=
  let c256_i32 : BitVec 32 := 256#32
  let v185 : BitVec 32 := Scalar.addi v26 c256_i32
  let c1_i32_48 : BitVec 32 := 1#32
  let arg8 : BitVec 32 := Scf.iv v185 c1_i32_48 k0_t1
  let v199 : Index := Scalar.indexCast arg8
  let c0_52 : Index := 0#32
  ![v199.toNat, 0]
@[reducible] def k0_t2_loop (v26 : BitVec 32) (v30 : BitVec 32) : Scf.Loop 32 :=
  let c256_i32 : BitVec 32 := 256#32
  let v185 : BitVec 32 := Scalar.addi v26 c256_i32
  let c1_i32 : BitVec 32 := 1#32
  let v186 : BitVec 32 := Scalar.addi v30 c1_i32
  let v187 : BitVec 32 := Scalar.subi v186 v185
  let c1_i32_47 : BitVec 32 := 1#32
  let v189 : BitVec 32 := Scalar.divsi v187 c1_i32_47
  let v190 : BitVec 32 := Scalar.muli v189 c1_i32_47
  let v191 : BitVec 32 := Scalar.addi v185 v190
  let v188 : BitVec 32 := Scalar.addi v185 v187
  let c1_i32_49 : BitVec 32 := 1#32
  ⟨v191, v188, c1_i32_49⟩
def k0_off3 (v26 : BitVec 32) (v30 : BitVec 32) (k0_t2 : Fin (k0_t2_loop v26 v30).trips) : Fin 2 → Nat :=
  let c256_i32 : BitVec 32 := 256#32
  let v185 : BitVec 32 := Scalar.addi v26 c256_i32
  let c1_i32 : BitVec 32 := 1#32
  let v186 : BitVec 32 := Scalar.addi v30 c1_i32
  let v187 : BitVec 32 := Scalar.subi v186 v185
  let c1_i32_47 : BitVec 32 := 1#32
  let v189 : BitVec 32 := Scalar.divsi v187 c1_i32_47
  let v190 : BitVec 32 := Scalar.muli v189 c1_i32_47
  let v191 : BitVec 32 := Scalar.addi v185 v190
  let c1_i32_49 : BitVec 32 := 1#32
  let arg8 : BitVec 32 := Scf.iv v191 c1_i32_49 k0_t2
  let v199 : Index := Scalar.indexCast arg8
  let c0_52 : Index := 0#32
  ![v199.toNat, 0]

def k0_chk2 (v26 : BitVec 32) (v30 : BitVec 32) : Prop :=
  ((k0_t1_loop v26 v30).OK) ∧
  (∀ k0_t1 : Fin (k0_t1_loop v26 v30).trips, ∀ a, (k0_off2 v26 v30 k0_t1) a + S1x64.size a ≤ S4352x64.size a) ∧
  ((k0_t2_loop v26 v30).OK) ∧
  (∀ k0_t2 : Fin (k0_t2_loop v26 v30).trips, ∀ a, (k0_off3 v26 v30 k0_t2) a + S1x64.size a ≤ S4352x64.size a)
theorem k0_t1_ok : ∀ (v26 : BitVec 32) (v30 : BitVec 32) (k0_hw2 : k0_chk2 v26 v30), (k0_t1_loop v26 v30).OK := fun v26 v30 k0_hw2 => k0_hw2.1
theorem k0_off2_inb : ∀ (v26 : BitVec 32) (v30 : BitVec 32) (k0_hw2 : k0_chk2 v26 v30) (k0_t1 : Fin (k0_t1_loop v26 v30).trips), ∀ a, (k0_off2 v26 v30 k0_t1) a + S1x64.size a ≤ S4352x64.size a := fun v26 v30 k0_hw2 k0_t1 => k0_hw2.2.1 k0_t1
theorem k0_t2_ok : ∀ (v26 : BitVec 32) (v30 : BitVec 32) (k0_hw2 : k0_chk2 v26 v30), (k0_t2_loop v26 v30).OK := fun v26 v30 k0_hw2 => k0_hw2.2.2.1
theorem k0_off3_inb : ∀ (v26 : BitVec 32) (v30 : BitVec 32) (k0_hw2 : k0_chk2 v26 v30) (k0_t2 : Fin (k0_t2_loop v26 v30).trips), ∀ a, (k0_off3 v26 v30 k0_t2) a + S1x64.size a ≤ S4352x64.size a := fun v26 v30 k0_hw2 k0_t2 => k0_hw2.2.2.2 k0_t2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x2560 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2560x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4352x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S4096x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x4096 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S320000x128 : Shape := ⟨2, ![320000, 128]⟩
abbrev S320000 : Shape := ⟨1, ![320000]⟩
abbrev S4096 : Shape := ⟨1, ![4096]⟩
abbrev S128x64 : Shape := ⟨2, ![128, 64]⟩
abbrev S64 : Shape := ⟨1, ![64]⟩
abbrev S64x64 : Shape := ⟨2, ![64, 64]⟩
abbrev S320000x64 : Shape := ⟨2, ![320000, 64]⟩
abbrev S1x64 : Shape := ⟨2, ![1, 64]⟩
abbrev S_ : Shape := ⟨0, ![]⟩
abbrev S1x320000x1 : Shape := ⟨3, ![1, 320000, 1]⟩
abbrev S4096x1x1 : Shape := ⟨3, ![4096, 1, 1]⟩
abbrev S4096x320000x1 : Shape := ⟨3, ![4096, 320000, 1]⟩
abbrev S1x320000x64 : Shape := ⟨3, ![1, 320000, 64]⟩
abbrev S4096x320000x64 : Shape := ⟨3, ![4096, 320000, 64]⟩
abbrev S4096x64 : Shape := ⟨2, ![4096, 64]⟩
abbrev S1x4096 : Shape := ⟨2, ![1, 4096]⟩
abbrev S4096x1 : Shape := ⟨2, ![4096, 1]⟩
abbrev S4096x4096 : Shape := ⟨2, ![4096, 4096]⟩
abbrev S64x128x64 : Shape := ⟨3, ![64, 128, 64]⟩
abbrev S4096x2 : Shape := ⟨2, ![4096, 2]⟩

abbrev nBuf : Space → Nat
  | .hbm => 116
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S4096, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S4096, .i1⟩
  | .hbm, ⟨8, _⟩ => ⟨S320000x64, .f32⟩
  | .hbm, ⟨9, _⟩ => ⟨S1x64, .f32⟩
  | .hbm, ⟨10, _⟩ => ⟨S320000x64, .f32⟩
  | .hbm, ⟨11, _⟩ => ⟨S320000x64, .f32⟩
  | .hbm, ⟨12, _⟩ => ⟨S_, .f32⟩
  | .hbm, ⟨13, _⟩ => ⟨S320000x64, .f32⟩
  | .hbm, ⟨14, _⟩ => ⟨S320000x64, .f32⟩
  | .hbm, ⟨15, _⟩ => ⟨S320000x64, .f32⟩
  | .hbm, ⟨16, _⟩ => ⟨S1x64, .f32⟩
  | .hbm, ⟨17, _⟩ => ⟨S320000x64, .f32⟩
  | .hbm, ⟨18, _⟩ => ⟨S320000x64, .f32⟩
  | .hbm, ⟨19, _⟩ => ⟨S_, .f32⟩
  | .hbm, ⟨20, _⟩ => ⟨S320000x64, .f32⟩
  | .hbm, ⟨21, _⟩ => ⟨S320000x64, .f32⟩
  | .hbm, ⟨22, _⟩ => ⟨S1x320000x1, .i32⟩
  | .hbm, ⟨23, _⟩ => ⟨S4096, .i32⟩
  | .hbm, ⟨24, _⟩ => ⟨S4096x1x1, .i32⟩
  | .hbm, ⟨25, _⟩ => ⟨S4096x320000x1, .i32⟩
  | .hbm, ⟨26, _⟩ => ⟨S4096x320000x1, .i32⟩
  | .hbm, ⟨27, _⟩ => ⟨S4096x320000x1, .i1⟩
  | .hbm, ⟨28, _⟩ => ⟨S1x320000x64, .f32⟩
  | .hbm, ⟨29, _⟩ => ⟨S_, .f32⟩
  | .hbm, ⟨30, _⟩ => ⟨S_, .f32⟩
  | .hbm, ⟨31, _⟩ => ⟨S4096x320000x64, .i1⟩
  | .hbm, ⟨32, _⟩ => ⟨S4096x320000x64, .f32⟩
  | .hbm, ⟨33, _⟩ => ⟨S4096x320000x64, .f32⟩
  | .hbm, ⟨34, _⟩ => ⟨S4096x320000x64, .f32⟩
  | .hbm, ⟨35, _⟩ => ⟨S_, .f32⟩
  | .hbm, ⟨36, _⟩ => ⟨S4096x64, .f32⟩
  | .hbm, ⟨37, _⟩ => ⟨S_, .f32⟩
  | .hbm, ⟨38, _⟩ => ⟨S4096x64, .f32⟩
  | .hbm, ⟨39, _⟩ => ⟨S4096x64, .i1⟩
  | .hbm, ⟨40, _⟩ => ⟨S_, .f32⟩
  | .hbm, ⟨41, _⟩ => ⟨S_, .f32⟩
  | .hbm, ⟨42, _⟩ => ⟨S4096x64, .f32⟩
  | .hbm, ⟨43, _⟩ => ⟨S4096x64, .f32⟩
  | .hbm, ⟨44, _⟩ => ⟨S_, .i32⟩
  | .hbm, ⟨45, _⟩ => ⟨S4096, .i32⟩
  | .hbm, ⟨46, _⟩ => ⟨S4096, .i32⟩
  | .hbm, ⟨47, _⟩ => ⟨S4096, .i32⟩
  | .hbm, ⟨48, _⟩ => ⟨S4096, .i32⟩
  | .hbm, ⟨49, _⟩ => ⟨S4096, .i32⟩
  | .hbm, ⟨50, _⟩ => ⟨S1x4096, .i32⟩
  | .hbm, ⟨51, _⟩ => ⟨S4096x1, .i32⟩
  | .hbm, ⟨52, _⟩ => ⟨S4096x4096, .i32⟩
  | .hbm, ⟨53, _⟩ => ⟨S4096x4096, .i32⟩
  | .hbm, ⟨54, _⟩ => ⟨S4096x4096, .i1⟩
  | .hbm, ⟨55, _⟩ => ⟨S1x4096, .i32⟩
  | .hbm, ⟨56, _⟩ => ⟨S4096x1, .i32⟩
  | .hbm, ⟨57, _⟩ => ⟨S4096x4096, .i32⟩
  | .hbm, ⟨58, _⟩ => ⟨S4096x4096, .i32⟩
  | .hbm, ⟨59, _⟩ => ⟨S4096x4096, .i1⟩
  | .hbm, ⟨60, _⟩ => ⟨S4096x4096, .i1⟩
  | .hbm, ⟨61, _⟩ => ⟨S4096x4096, .i32⟩
  | .hbm, ⟨62, _⟩ => ⟨S_, .i32⟩
  | .hbm, ⟨63, _⟩ => ⟨S4096, .i32⟩
  | .hbm, ⟨64, _⟩ => ⟨S_, .i32⟩
  | .hbm, ⟨65, _⟩ => ⟨S4096, .i32⟩
  | .hbm, ⟨66, _⟩ => ⟨S4096, .i32⟩
  | .hbm, ⟨67, _⟩ => ⟨S4096, .i1⟩
  | .hbm, ⟨68, _⟩ => ⟨S4096, .f32⟩
  | .hbm, ⟨69, _⟩ => ⟨S4096x1, .f32⟩
  | .hbm, ⟨70, _⟩ => ⟨S4096, .f32⟩
  | .hbm, ⟨71, _⟩ => ⟨S4096x1, .f32⟩
  | .hbm, ⟨72, _⟩ => ⟨S_, .f32⟩
  | .hbm, ⟨73, _⟩ => ⟨S64x128x64, .f32⟩
  | .hbm, ⟨74, _⟩ => ⟨S4096x64, .f32⟩
  | .hbm, ⟨75, _⟩ => ⟨S4096x64, .f32⟩
  | .hbm, ⟨76, _⟩ => ⟨S_, .i32⟩
  | .hbm, ⟨77, _⟩ => ⟨S4096, .i32⟩
  | .hbm, ⟨78, _⟩ => ⟨S4096, .i1⟩
  | .hbm, ⟨79, _⟩ => ⟨S_, .i32⟩
  | .hbm, ⟨80, _⟩ => ⟨S4096, .i32⟩
  | .hbm, ⟨81, _⟩ => ⟨S4096, .i32⟩
  | .hbm, ⟨82, _⟩ => ⟨S4096, .i32⟩
  | .hbm, ⟨83, _⟩ => ⟨S_, .i32⟩
  | .hbm, ⟨84, _⟩ => ⟨S4096, .i32⟩
  | .hbm, ⟨85, _⟩ => ⟨S4096, .i1⟩
  | .hbm, ⟨86, _⟩ => ⟨S_, .i32⟩
  | .hbm, ⟨87, _⟩ => ⟨S4096, .i32⟩
  | .hbm, ⟨88, _⟩ => ⟨S4096, .i32⟩
  | .hbm, ⟨89, _⟩ => ⟨S4096, .i32⟩
  | .hbm, ⟨90, _⟩ => ⟨S4096x1, .i32⟩
  | .hbm, ⟨91, _⟩ => ⟨S4096x1, .i32⟩
  | .hbm, ⟨92, _⟩ => ⟨S4096x2, .i32⟩
  | .hbm, ⟨93, _⟩ => ⟨S64x128x64, .f32⟩
  | .hbm, ⟨94, _⟩ => ⟨S_, .f32⟩
  | .hbm, ⟨95, _⟩ => ⟨S64x128x64, .f32⟩
  | .hbm, ⟨96, _⟩ => ⟨S4096x64, .f32⟩
  | .hbm, ⟨97, _⟩ => ⟨S4096x64, .f32⟩
  | .hbm, ⟨98, _⟩ => ⟨S_, .i32⟩
  | .hbm, ⟨99, _⟩ => ⟨S4096, .i32⟩
  | .hbm, ⟨100, _⟩ => ⟨S4096, .i1⟩
  | .hbm, ⟨101, _⟩ => ⟨S_, .i32⟩
  | .hbm, ⟨102, _⟩ => ⟨S4096, .i32⟩
  | .hbm, ⟨103, _⟩ => ⟨S4096, .i32⟩
  | .hbm, ⟨104, _⟩ => ⟨S4096, .i32⟩
  | .hbm, ⟨105, _⟩ => ⟨S_, .i32⟩
  | .hbm, ⟨106, _⟩ => ⟨S4096, .i32⟩
  | .hbm, ⟨107, _⟩ => ⟨S4096, .i1⟩
  | .hbm, ⟨108, _⟩ => ⟨S_, .i32⟩
  | .hbm, ⟨109, _⟩ => ⟨S4096, .i32⟩
  | .hbm, ⟨110, _⟩ => ⟨S4096, .i32⟩
  | .hbm, ⟨111, _⟩ => ⟨S4096, .i32⟩
  | .hbm, ⟨112, _⟩ => ⟨S4096x1, .i32⟩
  | .hbm, ⟨113, _⟩ => ⟨S4096x1, .i32⟩
  | .hbm, ⟨114, _⟩ => ⟨S4096x2, .i32⟩
  | .hbm, ⟨115, _⟩ => ⟨S64x128x64, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_cst : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_v17 : Ref sig .tc := ⟨.hbm, 34, rfl⟩
abbrev main_cst_0 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_call3_v0 : Ref sig .tc := ⟨.hbm, 41, rfl⟩
abbrev main_call3_v1 : Ref sig .tc := ⟨.hbm, 42, rfl⟩
abbrev main_v21 : Ref sig .tc := ⟨.hbm, 43, rfl⟩
abbrev main_c_3 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_4 : Ref sig .tc := ⟨.hbm, 62, rfl⟩
abbrev main_v39 : Ref sig .tc := ⟨.hbm, 63, rfl⟩
abbrev main_c_5 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_6 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_7 : Ref sig .tc := ⟨.hbm, 76, rfl⟩
abbrev main_v50 : Ref sig .tc := ⟨.hbm, 77, rfl⟩
abbrev main_v51 : Ref sig .tc := ⟨.hbm, 78, rfl⟩
abbrev main_c_8 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_c_9 : Ref sig .tc := ⟨.hbm, 83, rfl⟩
abbrev main_v55 : Ref sig .tc := ⟨.hbm, 84, rfl⟩
abbrev main_v56 : Ref sig .tc := ⟨.hbm, 85, rfl⟩
abbrev main_c_10 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_11 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_12 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_14 : Ref sig .tc := ⟨.hbm, 105, rfl⟩
abbrev main_v72 : Ref sig .tc := ⟨.hbm, 106, rfl⟩
abbrev main_v73 : Ref sig .tc := ⟨.hbm, 107, rfl⟩
abbrev main_c_15 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩

abbrev nD : Nat := 1
abbrev τ : Topo := Topo.v7x

variable {F : FTy → Type} [FloatOps F]
-- ==== Proof.Segmax.lean ====
/-
  The first kernel's body (`cc0__mlp_segmax_kernel`): what one grid step leaves in the accumulator, as a function of
  the step's blocks and of what the accumulator held.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.VecWindow
public import Idealize.ShloMosaic.Lib.Tactic
public import Idealize.ShloMosaic.Lib.WordCmp

@[expose] public section

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The words the body reads off the block of ids -/

/-- The smallest id of the block. -/
def lo (ids : Vec F S1x1x2560 .i32) : BitVec 32 := extractAt ![0, 0] (k0_pay7 ids) inpos_S1x1_p0_0
/-- The largest id of the block. -/
def hi (ids : Vec F S1x1x2560 .i32) : BitVec 32 := extractAt ![0, 0] (k0_pay8 ids) inpos_S1x1_p0_0
/-- The side conditions the body assumes of these two words: every row it touches lies inside the accumulator. -/
def RowsOk (ids : Vec F S1x1x2560 .i32) : Prop := k0_chk1 (lo ids) ∧ k0_chk2 (lo ids) (hi ids)

/-! ## The values of a step -/

/-- The hidden layer of the block, transposed: feature by point. -/
def hid (x : Vec F S2560x128 .f32) (w1 : Vec F S128x64 .f32) (b1 : Vec F S64x1 .f32) (w2 : Vec F S64x64 .f32) (b2 : Vec F S64x1 .f32) :
    FVec F S64x2560 .f32 := k0_pay4 x w1 b1 w2 b2
/-- The hidden layer shifted right by one point, the first rounds of the scan, and the scan's state after eight of its rounds. -/
def scan8 (ids : Vec F S1x1x2560 .i32) (x : Vec F S2560x128 .f32) (w1 : Vec F S128x64 .f32) (b1 : Vec F S64x1 .f32) (w2 : Vec F S64x64 .f32)
    (b2 : Vec F S64x1 .f32) : FVec F S64x2560 .f32 :=
  k0_pay13 (k0_pay6 ids) (k0_pay10 (k0_pay4 x w1 b1 w2 b2) (k0_pay6 ids) (k0_pay9 x w1 b1 w2 b2))
    (k0_pay11 (k0_pay4 x w1 b1 w2 b2) (k0_pay6 ids) (k0_pay9 x w1 b1 w2 b2)) (k0_pay12 (k0_pay6 ids))
/-- The state after eight rounds, shifted right for the ninth. -/
def shift8 (ids : Vec F S1x1x2560 .i32) (x : Vec F S2560x128 .f32) (w1 : Vec F S128x64 .f32) (b1 : Vec F S64x1 .f32) (w2 : Vec F S64x64 .f32)
    (b2 : Vec F S64x1 .f32) : FVec F S64x2560 .f32 :=
  k0_pay14 (k0_pay6 ids) (k0_pay10 (k0_pay4 x w1 b1 w2 b2) (k0_pay6 ids) (k0_pay9 x w1 b1 w2 b2))
    (k0_pay11 (k0_pay4 x w1 b1 w2 b2) (k0_pay6 ids) (k0_pay9 x w1 b1 w2 b2)) (k0_pay12 (k0_pay6 ids))
/-- The finished scan. -/
def scan (ids : Vec F S1x1x2560 .i32) (x : Vec F S2560x128 .f32) (w1 : Vec F S128x64 .f32) (b1 : Vec F S64x1 .f32) (w2 : Vec F S64x64 .f32)
    (b2 : Vec F S64x1 .f32) : FVec F S64x2560 .f32 :=
  k0_pay17 (k0_pay6 ids) (scan8 ids x w1 b1 w2 b2) (shift8 ids x w1 b1 w2 b2) k0_pay15 (k0_pay16 (k0_pay6 ids))

/-- The accumulator after the 256 rows from the smallest id on are raised to the block's maxima. -/
def bulk (ids : Vec F S1x1x2560 .i32) (x : Vec F S2560x128 .f32) (w1 : Vec F S128x64 .f32) (b1 : Vec F S64x1 .f32) (w2 : Vec F S64x64 .f32)
    (b2 : Vec F S64x1 .f32) (h1 : k0_chk1 (lo ids)) (acc : Vec F S4352x64 .f32) : Vec F S4352x64 .f32 :=
  VecWindow.put acc (k0_off1 (lo ids)) S256x64.size
    (k0_pay18 (k0_pay6 ids) (lo ids) (scan8 ids x w1 b1 w2 b2) (shift8 ids x w1 b1 w2 b2) k0_pay15 (k0_pay16 (k0_pay6 ids))
      (VecWindow.window acc (k0_off1 (lo ids)) S256x64.size (k0_off1_inb (lo ids) h1)))

/-- The accumulator before trip `k` of the loop over the rows past those 256. -/
def rows (row : IVec S1x2560 32) (a b : BitVec 32) (h2 : k0_chk2 a b) (sc : FVec F S64x2560 .f32) (acc : Vec F S4352x64 .f32) :
    ℕ → Vec F S4352x64 .f32
  | 0 => acc
  | k + 1 =>
    if h : k < (k0_t1_loop a b).trips then
      VecWindow.put (rows row a b h2 sc acc k) (k0_off2 a b ⟨k, h⟩) S1x64.size
        (k0_pay1 row a b sc ⟨k, h⟩ (VecWindow.window (rows row a b h2 sc acc k) (k0_off2 a b ⟨k, h⟩) S1x64.size (k0_off2_inb a b h2 ⟨k, h⟩)))
    else rows row a b h2 sc acc k

/-- The accumulator after the step, from what it held. -/
def step (ids : Vec F S1x1x2560 .i32) (x : Vec F S2560x128 .f32) (w1 : Vec F S128x64 .f32) (b1 : Vec F S64x1 .f32) (w2 : Vec F S64x64 .f32)
    (b2 : Vec F S64x1 .f32) (h : RowsOk ids) (acc : Vec F S4352x64 .f32) : Vec F S4352x64 .f32 :=
  rows (k0_pay6 ids) (lo ids) (hi ids) h.2 (scan ids x w1 b1 w2 b2) (bulk ids x w1 b1 w2 b2 h.1 acc) (k0_t1_loop (lo ids) (hi ids)).trips

/-- The step from the pieces it is composed of, given by equations. -/
theorem step_of {ids : Vec F S1x1x2560 .i32} {x : Vec F S2560x128 .f32} {w1 : Vec F S128x64 .f32} {b1 : Vec F S64x1 .f32}
    {w2 : Vec F S64x64 .f32} {b2 : Vec F S64x1 .f32} {acc acc' : Vec F S4352x64 .f32} {row : IVec S1x2560 32} {sc : FVec F S64x2560 .f32}
    {w : FVec F S256x64 .f32} (h1 : k0_chk1 (lo ids)) (h2 : k0_chk2 (lo ids) (hi ids)) (erow : row = k0_pay6 ids)
    (esc : sc = scan ids x w1 b1 w2 b2) (eacc : acc' = acc)
    (ew : w = k0_pay18 (k0_pay6 ids) (lo ids) (scan8 ids x w1 b1 w2 b2) (shift8 ids x w1 b1 w2 b2) k0_pay15 (k0_pay16 (k0_pay6 ids))
      (VecWindow.window acc' (k0_off1 (lo ids)) S256x64.size (k0_off1_inb (lo ids) h1))) :
    rows row (lo ids) (hi ids) h2 sc (VecWindow.put acc' (k0_off1 (lo ids)) S256x64.size w) (k0_t1_loop (lo ids) (hi ids)).trips
      = step ids x w1 b1 w2 b2 ⟨h1, h2⟩ acc := by
  subst eacc erow esc ew; rfl

/-! ## The loops -/

/-- The second counted loop (the remainder of an unrolling by one) makes no trip. -/
theorem no_trip (a b : BitVec 32) : (k0_t2_loop a b).trips = 0 := by
  have h1 : ∀ v : BitVec 32, Scalar.muli (Scalar.divsi v 1#32) 1#32 = v := by
    intro v
    have hc : ¬ IntOp.SDivCorner v 1#32 := by unfold IntOp.SDivCorner; simp
    simp [Scalar.muli, Scalar.divsi, IntOp.muli, IntOp.divsi, BitVec.sdiv_one, hc]
  simp only [Scf.Loop.trips, Scf.trips, h1]
  simp

section Trips

variable (𝒱 : Variants) (c : Dev nD) (bd : Option 𝒱.V) (i : grid0.Coords)
  (arg1 : Memref sig .tc .vmem S1x1x2560 .i32) (harg1 : arg1.IsWhole) (arg2 : Memref sig .tc .vmem S2560x128 .f32) (harg2 : arg2.IsWhole)
  (arg3 : Memref sig .tc .vmem S128x64 .f32) (harg3 : arg3.IsWhole) (arg4 : Memref sig .tc .vmem S64x1 .f32) (harg4 : arg4.IsWhole)
  (arg5 : Memref sig .tc .vmem S64x64 .f32) (harg5 : arg5.IsWhole) (arg6 : Memref sig .tc .vmem S64x1 .f32) (harg6 : arg6.IsWhole)
  (arg7 : Memref sig .tc .vmem S4352x64 .f32) (harg7 : arg7.IsWhole)
  (row : IVec S1x2560 32) (a b : BitVec 32) (h2 : k0_chk2 a b) (sc : FVec F S64x2560 .f32)

/-- One trip stores one row: the payload of the row it reads there. -/
theorem trip_piece (k : Fin (k0_t1_loop a b).trips) (f : BufTy.Contents (Elt F) arg7.view.ty) :
    tripL_k0_t1 (F := F) 𝒱 c bd i arg1 harg1 arg2 harg2 arg3 harg3 arg4 harg4 arg5 harg5 arg6 harg6 arg7 harg7 row a b h2 sc k f
      = [⟨Rect.unit (s := S4352x64) (k0_off2 a b k) S1x64.size (k0_off2_inb a b h2 k),
          k0_pay1 row a b sc k (arg7.view.readAt (Elt F) (Rect.unit (s := S4352x64) (k0_off2 a b k) S1x64.size (k0_off2_inb a b h2 k)).toLoadRect f)⟩] := by
  unfold tripL_k0_t1 trip_k0_t1
  rfl

/-- The pieces of the first `k` trips, read back, are the rows those trips raise. -/
theorem read_pieces (G : BufTy.Contents (Elt F) arg7.view.ty) (k : ℕ) :
    arg7.view.read (Elt F) (arg7.view.writes (Elt F) G
        (pb_k0_t1 (F := F) 𝒱 c bd i arg1 harg1 arg2 harg2 arg3 harg3 arg4 harg4 arg5 harg5 arg6 harg6 arg7 harg7 row a b h2 sc G k))
      = rows row a b h2 sc (arg7.view.read (Elt F) G) k := by
  induction k with
  | zero => rfl
  | succ k ih =>
    rw [pb_k0_t1.eq_2]
    unfold pb_k0_t1Step rows
    by_cases h : k < (k0_t1_loop a b).trips
    · rw [dif_pos h, dif_pos h, trip_piece, ← ih]
      rw [List.singleton_append, View.read_writes_cons_put _ _ _ _ _ rfl, View.readAt_unit _ _ _ rfl (k0_off2_inb a b h2 ⟨k, h⟩)]
    · rw [dif_neg h, dif_neg h, ih]

/-- The buffer after the whole body, read back: the two loops' pieces over the 256 rows' piece over what was there. -/
theorem read_final (h1 : k0_chk1 a) (G : BufTy.Contents (Elt F) arg7.view.ty) (L : List (View.Piece (Elt F) S4352x64 .f32))
    (w : FVec F S256x64 .f32) :
    arg7.view.read (Elt F) (arg7.view.writes (Elt F) G
        (pb_k0_t2 (F := F) 𝒱 c bd i arg1 harg1 arg2 harg2 arg3 harg3 arg4 harg4 arg5 harg5 arg6 harg6 arg7 harg7 row a b h2 sc
            (arg7.view.writes (Elt F) G
              (pb_k0_t1 (F := F) 𝒱 c bd i arg1 harg1 arg2 harg2 arg3 harg3 arg4 harg4 arg5 harg5 arg6 harg6 arg7 harg7 row a b h2 sc
                  (arg7.view.writes (Elt F) G (⟨Rect.unit (s := S4352x64) (k0_off1 a) S256x64.size (k0_off1_inb a h1), w⟩ :: L))
                  (Scf.trips (k0_t1_loop a b).lb (k0_t1_loop a b).ub (k0_t1_loop a b).st)
                ++ ⟨Rect.unit (s := S4352x64) (k0_off1 a) S256x64.size (k0_off1_inb a h1), w⟩ :: L))
            (Scf.trips (k0_t2_loop a b).lb (k0_t2_loop a b).ub (k0_t2_loop a b).st)
          ++ (pb_k0_t1 (F := F) 𝒱 c bd i arg1 harg1 arg2 harg2 arg3 harg3 arg4 harg4 arg5 harg5 arg6 harg6 arg7 harg7 row a b h2 sc
                  (arg7.view.writes (Elt F) G (⟨Rect.unit (s := S4352x64) (k0_off1 a) S256x64.size (k0_off1_inb a h1), w⟩ :: L))
                  (Scf.trips (k0_t1_loop a b).lb (k0_t1_loop a b).ub (k0_t1_loop a b).st)
                ++ ⟨Rect.unit (s := S4352x64) (k0_off1 a) S256x64.size (k0_off1_inb a h1), w⟩ :: L)))
      = rows row a b h2 sc (VecWindow.put (arg7.view.read (Elt F) (arg7.view.writes (Elt F) G L)) (k0_off1 a) S256x64.size w) (k0_t1_loop a b).trips := by
  have e0 : Scf.trips (k0_t2_loop a b).lb (k0_t2_loop a b).ub (k0_t2_loop a b).st = 0 := no_trip a b
  rw [e0, pb_k0_t2.eq_1, List.nil_append, View.writes_append, read_pieces, View.read_writes_cons_put _ _ _ _ _ rfl]

end Trips

/-! ## The body -/

/-- A buffer held with some contents is a buffer owned at what those contents read. -/
theorem owns_read {sh : Shape} {e : EltTy} (c : Dev nD) (m : Memref sig .tc .vmem sh e) (f : BufTy.Contents (Elt F) m.view.ty) :
    (m.view.loc (c : Thread nD τ) ↦[m.view.set]{fullShare} f : sProp 𝕄) ⊢ owns (c : Thread nD τ) m fullShare (m.view.read (Elt F) f) := by
  unfold owns
  iintro H
  iexists _; isplitr
  · ipureintro; exact rfl
  iexact H

/-- The condition of the body's only branch: this is the grid's first point. -/
abbrev First (i : grid0.Coords) : Prop :=
  Scalar.cmpi .ne (Scalar.extui (Scalar.cmpi .eq (BitVec.ofNat 32 (i 0).val) 0#32)) 0#32 = 1#1

/-- What the accumulator counts as holding when the step starts: zeros at the first point, its contents later. -/
def start (i : grid0.Coords) (acc : Vec F S4352x64 .f32) : Vec F S4352x64 .f32 := if First i then k0_pay3 else acc

-- the executor's proof term names every load and payload of the body
set_option maxHeartbeats 400000 in
/-- The body at any grid point, on whole staging buffers holding the blocks `x·` and the accumulator at `acc`: it leaves
    the blocks as they were and the accumulator one `step` further. -/
theorem body_run (c : Dev nD) (i : grid0.Coords)
    (arg1 : Memref sig .tc .vmem S1x1x2560 .i32) (harg1 : arg1.IsWhole) (arg2 : Memref sig .tc .vmem S2560x128 .f32) (harg2 : arg2.IsWhole)
    (arg3 : Memref sig .tc .vmem S128x64 .f32) (harg3 : arg3.IsWhole) (arg4 : Memref sig .tc .vmem S64x1 .f32) (harg4 : arg4.IsWhole)
    (arg5 : Memref sig .tc .vmem S64x64 .f32) (harg5 : arg5.IsWhole) (arg6 : Memref sig .tc .vmem S64x1 .f32) (harg6 : arg6.IsWhole)
    (arg7 : Memref sig .tc .vmem S4352x64 .f32) (harg7 : arg7.IsWhole)
    (x0 : Vec F S1x1x2560 .i32) (x1 : Vec F S2560x128 .f32) (x2 : Vec F S128x64 .f32) (x3 : Vec F S64x1 .f32) (x4 : Vec F S64x64 .f32)
    (x5 : Vec F S64x1 .f32) (acc : Vec F S4352x64 .f32) (h : RowsOk x0) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare acc
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (step x0 x1 x2 x3 x4 x5 h (start i acc))) -∗ K ⟨⟩))
      ⊢ wp frame (wpE (defs₀ (F := F)) Variants.none c none) E
          (cc0__mlp_segmax_kernel i arg1 harg1 arg2 harg2 arg3 harg3 arg4 harg4 arg5 harg5 arg6 harg6 arg7 harg7) K := by
  obtain ⟨h1, h2⟩ := h
  simp only [cc0__mlp_segmax_kernel_eq_skeleton]; unfold cc0__mlp_segmax_kernel_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0 hf1 hf2 hf3 hf4 hf5 hf6
  unfold start
  have e0 : arg1.view.readAt (Elt F) (Rect.unit ![0, 0, 0] S1x1x2560.size inb_S1x1x2560_S1x1x2560_0_0_0).toLoadRect f0 = arg1.view.read (Elt F) f0 :=
    View.readAt_full _ _ _
  have e1 : arg2.view.readAt (Elt F) (Rect.unit ![0, 0] S2560x128.size inb_S2560x128_S2560x128_0_0).toLoadRect f1 = arg2.view.read (Elt F) f1 :=
    View.readAt_full _ _ _
  have e2 : arg3.view.readAt (Elt F) (Rect.unit ![0, 0] S128x64.size inb_S128x64_S128x64_0_0).toLoadRect f2 = arg3.view.read (Elt F) f2 :=
    View.readAt_full _ _ _
  have e3 : arg4.view.readAt (Elt F) (Rect.unit ![0, 0] S64x1.size inb_S64x1_S64x1_0_0).toLoadRect f3 = arg4.view.read (Elt F) f3 :=
    View.readAt_full _ _ _
  have e4 : arg5.view.readAt (Elt F) (Rect.unit ![0, 0] S64x64.size inb_S64x64_S64x64_0_0).toLoadRect f4 = arg5.view.read (Elt F) f4 :=
    View.readAt_full _ _ _
  have e5 : arg6.view.readAt (Elt F) (Rect.unit ![0, 0] S64x1.size inb_S64x1_S64x1_0_0).toLoadRect f5 = arg6.view.read (Elt F) f5 :=
    View.readAt_full _ _ _
  by_cases hc : First i
  on_goal 1 => rw [if_pos hc]
  on_goal 2 => rw [if_neg hc]
  all_goals
    sl_exec (disch := first | sl_exact hc | sl_exact h1 | sl_exact h2)
    sl_step
    iapply Hk
    isplitl [H0]; · exact owns_read _ _ _
    isplitl [H1]; · exact owns_read _ _ _
    isplitl [H2]; · exact owns_read _ _ _
    isplitl [H3]; · exact owns_read _ _ _
    isplitl [H4]; · exact owns_read _ _ _
    isplitl [H5]; · exact owns_read _ _ _
    iexists _; isplitr; swap; · iexact H6
    ipureintro
    refine (read_final Variants.none c none i arg1 harg1 arg2 harg2 arg3 harg3 arg4 harg4 arg5 harg5 arg6 harg6 arg7 harg7 _ _ _ h2 _ h1 _ _ _).trans ?_
    refine step_of h1 h2 ?_ ?_ ?_ ?_
  · exact rfl
  · exact rfl
  · exact View.read_writes_full _ _ _ _ _
  · exact rfl
  · exact rfl
  · exact rfl
  · exact rfl
  · exact rfl

end Cert.KernelIdeal.Hand

end
-- ==== Proof.Scatter.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Segmax
public import Idealize.ShloMosaic.Lib.Pipeline.FrameBody
public import Idealize.ShloMosaic.Lib.VecWindow
public import Idealize.ShloMosaic.Lib.Tactic

@[expose] public section

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second call: what a step leaves in its two outputs -/

/-- The padded tokens' block of step `i`, from all tokens, the voxel keys and the mask's ints. -/
def kept (i : grid1.Coords) (x0 : Vec F S4096x64 .f32) (x1 x2 : Vec F S1x4096 .i32) : Vec F S1024x64 .f32 :=
  k1_pay8 (BitVec.ofNat 32 (i 0).val) (k1_pay1 x1) x2 (k1_pay2 x1 x2) (k1_pay3 x1 x2) (k1_pay4 (F := F)) (k1_pay5 x1 x2) x0
/-- The masked tokens' block of step `i`. -/
def dropped (i : grid1.Coords) (x0 : Vec F S4096x64 .f32) (x1 x2 : Vec F S1x4096 .i32) : Vec F S1024x64 .f32 :=
  k1_pay9 (BitVec.ofNat 32 (i 0).val) (k1_pay1 x1) x2 (k1_pay2 x1 x2) (k1_pay3 x1 x2) (k1_pay4 (F := F)) (k1_pay5 x1 x2) x0

set_option maxHeartbeats 400000 in
/-- The second call's body at any grid point, on whole staging buffers: the inputs stay, the outputs hold the step's blocks. -/
theorem body_run1 (c : Dev nD) (i : grid1.Coords)
    (arg1 : Memref sig .tc .vmem S4096x64 .f32) (harg1 : arg1.IsWhole) (arg2 : Memref sig .tc .vmem S1x4096 .i32) (harg2 : arg2.IsWhole)
    (arg3 : Memref sig .tc .vmem S1x4096 .i32) (harg3 : arg3.IsWhole) (arg4 : Memref sig .tc .vmem S1024x64 .f32) (harg4 : arg4.IsWhole)
    (arg5 : Memref sig .tc .vmem S1024x64 .f32) (harg5 : arg5.IsWhole)
    (x0 : Vec F S4096x64 .f32) (x1 x2 : Vec F S1x4096 .i32) (y3 y4 : Vec F S1024x64 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare y3 ∗ owns (c : Thread nD τ) arg5 fullShare y4
        ∗ (iprop(owns (c : Thread nD τ) arg1 fullShare x0 ∗ owns (c : Thread nD τ) arg2 fullShare x1 ∗ owns (c : Thread nD τ) arg3 fullShare x2
            ∗ owns (c : Thread nD τ) arg4 fullShare (kept i x0 x1 x2) ∗ owns (c : Thread nD τ) arg5 fullShare (dropped i x0 x1 x2)) -∗ K ⟨⟩))
      ⊢ wp frame (wpE (defs₀ (F := F)) Variants.none c none) E
          (cc1__pad_scatter_kernel i arg1 harg1 arg2 harg2 arg3 harg3 arg4 harg4 arg5 harg5) K := by
  simp only [cc1__pad_scatter_kernel_eq_skeleton]; unfold cc1__pad_scatter_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2
  have e0 : arg1.view.readAt (Elt F) (Rect.unit ![0, 0] S4096x64.size inb_S4096x64_S4096x64_0_0).toLoadRect f0 = arg1.view.read (Elt F) f0 :=
    View.readAt_full _ _ _
  have e1 : arg2.view.readAt (Elt F) (Rect.unit ![0, 0] S1x4096.size inb_S1x4096_S1x4096_0_0).toLoadRect f1 = arg2.view.read (Elt F) f1 :=
    View.readAt_full _ _ _
  have e2 : arg3.view.readAt (Elt F) (Rect.unit ![0, 0] S1x4096.size inb_S1x4096_S1x4096_0_0).toLoadRect f2 = arg3.view.read (Elt F) f2 :=
    View.readAt_full _ _ _
  sl_exec
  sl_step
  iapply Hk
  isplitl [H0]; · exact owns_read _ _ _
  isplitl [H1]; · exact owns_read _ _ _
  isplitl [H2]; · exact owns_read _ _ _
  isplitl [H3]
  · iexists _; isplitr; swap; · iexact H3
    ipureintro
    exact View.read_writes_full _ _ _ _ _
  · iexists _; isplitr; swap; · iexact H4
    ipureintro
    exact View.read_writes_full _ _ _ _ _

end Cert.KernelIdeal.Hand

end
-- ==== Proof.Data.lean ====
module

public import proofs.«01_k».proof.Proof.Segmax
public import proofs.«01_k».proof.Proof.Scatter
public import proofs.«01_k».proof.Proof.Gen.KernelIdeal.Points
public import Idealize.ShloMosaic.Lib.Pipeline.FrameBody
public import Idealize.ShloMosaic.Lib.Pipeline.FrameSuffix
public import Idealize.ShloMosaic.Lib.Tactic
public import Idealize.ShloMosaic.Lib.WordCmp

@[expose] public section

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when a call is entered
variable (V : (c : Dev nD) → (b : Ref sig .tc) → Buf (Elt F) ((c : Thread nD τ).loc b))

/-! ## The first call -/

/-- Window `w`'s block at step `t` of the first call. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after one step, from what it held; unchanged in a step whose ids would reach past it. -/
def next (ids : Vec F S1x1x2560 .i32) (x : Vec F S2560x128 .f32) (w1 : Vec F S128x64 .f32) (b1 : Vec F S64x1 .f32) (w2 : Vec F S64x64 .f32)
    (b2 : Vec F S64x1 .f32) (acc : Vec F S4352x64 .f32) : Vec F S4352x64 .f32 :=
  open Classical in if h : RowsOk ids then step ids x w1 b1 w2 b2 h acc else acc

/-- The accumulator after step `n`, the first step starting from zeros. -/
def accAt (c : Dev nD) : (n : ℕ) → n < cfg0.N → Vec F S4352x64 .f32
  | 0, h => next (blk0 V c 0 ⟨0, h⟩) (blk0 V c 1 ⟨0, h⟩) (blk0 V c 2 ⟨0, h⟩) (blk0 V c 3 ⟨0, h⟩) (blk0 V c 4 ⟨0, h⟩) (blk0 V c 5 ⟨0, h⟩) k0_pay3
  | n + 1, h => next (blk0 V c 0 ⟨n + 1, h⟩) (blk0 V c 1 ⟨n + 1, h⟩) (blk0 V c 2 ⟨n + 1, h⟩) (blk0 V c 3 ⟨n + 1, h⟩) (blk0 V c 4 ⟨n + 1, h⟩)
      (blk0 V c 5 ⟨n + 1, h⟩) (accAt c n (Nat.lt_of_succ_lt h))

/-- The first call's proof data: arrays as found, inputs left in place, the accumulator at `accAt`. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => accAt V c t.val t.isLt
  Φ _ := Pipeline.ΦA spec0 c
  q _ := fullShare
  owed _ := 0

theorem dat0_A (c : Dev nD) (w : Fin cfg0.W) : (dat0 V c).A w = V c (Pipeline.arrRef spec0 w) := by dsimp only [dat0]

/-- The body's branch is taken at the first step only. -/
theorem first_iff (t : Fin cfg0.N) : First (grid0.coords t) ↔ t.val = 0 := by
  have ht : t.val < 125 := Nat.lt_of_lt_of_eq t.isLt N_0
  have e0 : (grid0.coords t 0).val = t.val / 1 % 125 := Pipeline.Grid.coords_val t 0 (by decide) rfl
  have key : First (grid0.coords t) ↔ t.val % 125 = 0 := by
    simp only [First, e0]
    word_cmp
  rw [key]; omega

/-- Step by step: the accumulator after step `t` is one `next` from where the body started. -/
theorem accAt_step (c : Dev nD) (t : Fin cfg0.N) (d : Vec F S4352x64 .f32) :
    next (blk0 V c 0 t) (blk0 V c 1 t) (blk0 V c 2 t) (blk0 V c 3 t) (blk0 V c 4 t) (blk0 V c 5 t) (start (grid0.coords t) ((dat0 V c).before 6 t d))
      = accAt V c t.val t.isLt := by
  obtain ⟨n, hn⟩ := t
  have hN : n < 125 := lt_of_lt_of_eq hn N_0
  unfold start
  cases n with
  | zero => rw [if_pos ((first_iff ⟨0, hn⟩).mpr rfl)]; rfl
  | succ n =>
    rw [if_neg (fun h => absurd ((first_iff ⟨n + 1, hn⟩).mp h) (by simp)),
      Dat.before_out_kept _ 6 rfl ⟨n + 1, hn⟩ (by simp) (Bool.eq_false_iff.mpr fun h => by have := (flush0_6 _).mp h; dsimp only at this; omega)
        (fun _ => rfl) (fun _ _ => rfl)]
    rfl

/-- The body's obligation at every step, given that every step's ids keep inside the accumulator. -/
theorem body_ok0 (c : Dev nD) (hrows : ∀ t, RowsOk (blk0 V c 0 t)) :
    BodyObligation (dat0 (F := F) V c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  have h0 : ∀ d, (dat0 V c).before 0 t d = blk0 V c 0 t := fun d =>
    (dat0 V c).before_in_eq_fetched 0 rfl (fun _ => rfl) (fun _ _ _ => rfl) (fun _ => rfl) t d
  have h1 : ∀ d, (dat0 V c).before 1 t d = blk0 V c 1 t := fun d =>
    (dat0 V c).before_in_eq_fetched 1 rfl (fun _ => rfl) (fun _ _ _ => rfl) (fun _ => rfl) t d
  have h2 : ∀ d, (dat0 V c).before 2 t d = blk0 V c 2 t := fun d =>
    (dat0 V c).before_in_eq_fetched 2 rfl (fun _ => rfl) (fun _ _ _ => rfl) (fun _ => rfl) t d
  have h3 : ∀ d, (dat0 V c).before 3 t d = blk0 V c 3 t := fun d =>
    (dat0 V c).before_in_eq_fetched 3 rfl (fun _ => rfl) (fun _ _ _ => rfl) (fun _ => rfl) t d
  have h4 : ∀ d, (dat0 V c).before 4 t d = blk0 V c 4 t := fun d =>
    (dat0 V c).before_in_eq_fetched 4 rfl (fun _ => rfl) (fun _ _ _ => rfl) (fun _ => rfl) t d
  have h5 : ∀ d, (dat0 V c).before 5 t d = blk0 V c 5 t := fun d =>
    (dat0 V c).before_in_eq_fetched 5 rfl (fun _ => rfl) (fun _ _ _ => rfl) (fun _ => rfl) t d
  have hrun : iprop((dat0 V c).Φ t.castSucc ∗ (dat0 V c).owesAt () t.castSucc
        ∗ (∃ d, owns (c : Thread nD τ) (win0_0.stage (cfg0.slots t 0)) fullShare ((dat0 V c).before 0 t d))
        ∗ (∃ d, owns (c : Thread nD τ) (win0_1.stage (cfg0.slots t 1)) fullShare ((dat0 V c).before 1 t d))
        ∗ (∃ d, owns (c : Thread nD τ) (win0_2.stage (cfg0.slots t 2)) fullShare ((dat0 V c).before 2 t d))
        ∗ (∃ d, owns (c : Thread nD τ) (win0_3.stage (cfg0.slots t 3)) fullShare ((dat0 V c).before 3 t d))
        ∗ (∃ d, owns (c : Thread nD τ) (win0_4.stage (cfg0.slots t 4)) fullShare ((dat0 V c).before 4 t d))
        ∗ (∃ d, owns (c : Thread nD τ) (win0_5.stage (cfg0.slots t 5)) fullShare ((dat0 V c).before 5 t d))
        ∗ (∃ d, owns (c : Thread nD τ) (win0_6.stage (cfg0.slots t 6)) fullShare ((dat0 V c).before 6 t d)))
      ⊢ wp frame (wpE (defs₀ (F := F)) Variants.none c none) Set.univ (bodyAt0 t) (fun _ =>
          iprop((dat0 V c).Φ t.succ ∗ (dat0 V c).owesAt () t.succ
            ∗ owns (c : Thread nD τ) (win0_0.stage (cfg0.slots t 0)) fullShare (blk0 V c 0 t)
            ∗ owns (c : Thread nD τ) (win0_1.stage (cfg0.slots t 1)) fullShare (blk0 V c 1 t)
            ∗ owns (c : Thread nD τ) (win0_2.stage (cfg0.slots t 2)) fullShare (blk0 V c 2 t)
            ∗ owns (c : Thread nD τ) (win0_3.stage (cfg0.slots t 3)) fullShare (blk0 V c 3 t)
            ∗ owns (c : Thread nD τ) (win0_4.stage (cfg0.slots t 4)) fullShare (blk0 V c 4 t)
            ∗ owns (c : Thread nD τ) (win0_5.stage (cfg0.slots t 5)) fullShare (blk0 V c 5 t)
            ∗ owns (c : Thread nD τ) (win0_6.stage (cfg0.slots t 6)) fullShare (accAt V c t.val t.isLt))) := by
    unfold bodyAt0
    simp only [h0, h1, h2, h3, h4, h5]
    rw [show (dat0 V c).Φ t.succ = (dat0 V c).Φ t.castSucc from rfl, show (dat0 V c).owesAt () t.succ = (dat0 V c).owesAt () t.castSucc from rfl]
    iintro ⟨HΦ, Ho, ⟨%d0, H0⟩, ⟨%d1, H1⟩, ⟨%d2, H2⟩, ⟨%d3, H3⟩, ⟨%d4, H4⟩, ⟨%d5, H5⟩, ⟨%d6, H6⟩⟩
    have e := accAt_step V c t d6
    unfold next at e
    rw [dif_pos (hrows t)] at e
    rw [← e]
    iapply (body_run c (grid0.coords t) _ _ _ _ _ _ _ _ _ _ _ _ _ _ (blk0 V c 0 t) (blk0 V c 1 t) (blk0 V c 2 t) (blk0 V c 3 t) (blk0 V c 4 t)
      (blk0 V c 5 t) ((dat0 V c).before 6 t d6) (hrows t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  exact triple_restated hrun rfl .rfl fun _ => .rfl

/-! ## The second call -/

/-- Window `w`'s block at step `t` of the second call. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The second call's proof data: arrays as found, inputs left in place, each output at the step's block. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => kept (grid1.coords t) (blk1 V c 0 t) (blk1 V c 1 t) (blk1 V c 2 t)
    | ⟨4, _⟩ => dropped (grid1.coords t) (blk1 V c 0 t) (blk1 V c 1 t) (blk1 V c 2 t)
  Φ _ := Pipeline.ΦA spec1 c
  q _ := fullShare
  owed _ := 0

theorem dat1_A (c : Dev nD) (w : Fin cfg1.W) : (dat1 V c).A w = V c (Pipeline.arrRef spec1 w) := by dsimp only [dat1]

/-- The second call's body obligation at every step. -/
theorem body_ok1 (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t from by unfold defs₀; rw [Defs.onTc_tc]]
  have h0 : ∀ d, (dat1 V c).before 0 t d = blk1 V c 0 t := fun d =>
    (dat1 V c).before_in_eq_fetched 0 rfl (fun _ => rfl) (fun _ _ _ => rfl) (fun _ => rfl) t d
  have h1 : ∀ d, (dat1 V c).before 1 t d = blk1 V c 1 t := fun d =>
    (dat1 V c).before_in_eq_fetched 1 rfl (fun _ => rfl) (fun _ _ _ => rfl) (fun _ => rfl) t d
  have h2 : ∀ d, (dat1 V c).before 2 t d = blk1 V c 2 t := fun d =>
    (dat1 V c).before_in_eq_fetched 2 rfl (fun _ => rfl) (fun _ _ _ => rfl) (fun _ => rfl) t d
  have hrun : iprop((dat1 V c).Φ t.castSucc ∗ (dat1 V c).owesAt () t.castSucc
        ∗ (∃ d, owns (c : Thread nD τ) (win1_0.stage (cfg1.slots t 0)) fullShare ((dat1 V c).before 0 t d))
        ∗ (∃ d, owns (c : Thread nD τ) (win1_1.stage (cfg1.slots t 1)) fullShare ((dat1 V c).before 1 t d))
        ∗ (∃ d, owns (c : Thread nD τ) (win1_2.stage (cfg1.slots t 2)) fullShare ((dat1 V c).before 2 t d))
        ∗ (∃ d, owns (c : Thread nD τ) (win1_3.stage (cfg1.slots t 3)) fullShare ((dat1 V c).before 3 t d))
        ∗ (∃ d, owns (c : Thread nD τ) (win1_4.stage (cfg1.slots t 4)) fullShare ((dat1 V c).before 4 t d)))
      ⊢ wp frame (wpE (defs₀ (F := F)) Variants.none c none) Set.univ (bodyAt1 t) (fun _ =>
          iprop((dat1 V c).Φ t.succ ∗ (dat1 V c).owesAt () t.succ
            ∗ owns (c : Thread nD τ) (win1_0.stage (cfg1.slots t 0)) fullShare (blk1 V c 0 t)
            ∗ owns (c : Thread nD τ) (win1_1.stage (cfg1.slots t 1)) fullShare (blk1 V c 1 t)
            ∗ owns (c : Thread nD τ) (win1_2.stage (cfg1.slots t 2)) fullShare (blk1 V c 2 t)
            ∗ owns (c : Thread nD τ) (win1_3.stage (cfg1.slots t 3)) fullShare (kept (grid1.coords t) (blk1 V c 0 t) (blk1 V c 1 t) (blk1 V c 2 t))
            ∗ owns (c : Thread nD τ) (win1_4.stage (cfg1.slots t 4)) fullShare (dropped (grid1.coords t) (blk1 V c 0 t) (blk1 V c 1 t) (blk1 V c 2 t)))) := by
    unfold bodyAt1
    simp only [h0, h1, h2]
    rw [show (dat1 V c).Φ t.succ = (dat1 V c).Φ t.castSucc from rfl, show (dat1 V c).owesAt () t.succ = (dat1 V c).owesAt () t.castSucc from rfl]
    iintro ⟨HΦ, Ho, ⟨%d0, H0⟩, ⟨%d1, H1⟩, ⟨%d2, H2⟩, ⟨%d3, H3⟩, ⟨%d4, H4⟩⟩
    iapply (body_run1 c (grid1.coords t) _ _ _ _ _ _ _ _ _ _ (blk1 V c 0 t) (blk1 V c 1 t) (blk1 V c 2 t) _ _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  exact triple_restated hrun rfl .rfl fun _ => .rfl

end Cert.KernelIdeal.Hand

end
-- ==== Proof.Run.lean ====
module

public import proofs.«01_k».proof.Proof.Data
public import proofs.«01_k».proof.Proof.Gen.KernelIdeal.Regions
public import Idealize.ShloMosaic.Lib.Pipeline.RegionsLoop
public import Idealize.ShloMosaic.Lib.Pipeline.FrameSuffix
public import Idealize.ShloMosaic.Lib.Ring
public import Idealize.ShloMosaic.Lib.Tactic

@[expose] public section

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between @main's items -/

/-- At launch. -/
abbrev X0 (c : Dev nD) : Valuation τ sig (Elt F) := fun b => m (c, b)
/-- Before the first call. -/
abbrev X1 (c : Dev nD) : Valuation τ sig (Elt F) := StableHlo.after hostOps0 (X0 m c)

/-- The buffers when call 0 has returned: its arrays as its write-backs leave them, the others as it found them. -/
def X2 (c : Dev nD) : Valuation τ sig (Elt F) :=
  Pipeline.withArrays spec0 c (X1 m c) fun w => (dat0 (fun c b => X1 m c b) c).arrAt w cfg0.N
theorem X2_arr (c : Dev nD) (w : Fin cfg0.W) :
    X2 m c (Proc.devRef .tc (Pipeline.arrRef spec0 w)) = (dat0 (fun c b => X1 m c b) c).arrAt w cfg0.N := by
  unfold X2; exact Pipeline.withArrays_arr spec0 launch0.win.arr_inj c _ _ w
theorem X2_of_ne (c : Dev nD) (b : Ref sig .tc) (hb : ∀ w, Pipeline.arrRef spec0 w ≠ b) :
    X2 m c (Proc.devRef .tc b) = X1 m c (Proc.devRef .tc b) := by
  unfold X2; exact Pipeline.withArrays_of_ne spec0 c _ _ b hb
/-- A buffer that is no output array of call 0 is as the call found it. -/
theorem X2_of (c : Dev nD) (r : Ref sig .tc) (h : ∀ w : Fin cfg0.W, Pipeline.arrRef spec0 w = r → (cfg0.win w).isOut = false) :
    X2 m c (Proc.devRef .tc r) = X1 m c (Proc.devRef .tc r) := by
  by_cases hw : ∃ w : Fin cfg0.W, Pipeline.arrRef spec0 w = r
  · obtain ⟨w, rfl⟩ := hw
    exact (X2_arr m c w).trans (((dat0 (fun c b => X1 m c b) c).arrAt_in w (h w rfl) _).trans (dat0_A (fun c b => X1 m c b) c w))
  · exact X2_of_ne m c r fun w e => hw ⟨w, e⟩

/-- Before the second call. -/
abbrev X3 (c : Dev nD) : Valuation τ sig (Elt F) := StableHlo.after hostOps1 (X2 m c)

/-- The buffers when call 1 has returned: its arrays as its write-backs leave them, the others as it found them. -/
def X4 (c : Dev nD) : Valuation τ sig (Elt F) :=
  Pipeline.withArrays spec1 c (X3 m c) fun w => (dat1 (fun c b => X3 m c b) c).arrAt w cfg1.N
theorem X4_arr (c : Dev nD) (w : Fin cfg1.W) :
    X4 m c (Proc.devRef .tc (Pipeline.arrRef spec1 w)) = (dat1 (fun c b => X3 m c b) c).arrAt w cfg1.N := by
  unfold X4; exact Pipeline.withArrays_arr spec1 launch1.win.arr_inj c _ _ w
theorem X4_of_ne (c : Dev nD) (b : Ref sig .tc) (hb : ∀ w, Pipeline.arrRef spec1 w ≠ b) :
    X4 m c (Proc.devRef .tc b) = X3 m c (Proc.devRef .tc b) := by
  unfold X4; exact Pipeline.withArrays_of_ne spec1 c _ _ b hb
/-- A buffer that is no output array of call 1 is as the call found it. -/
theorem X4_of (c : Dev nD) (r : Ref sig .tc) (h : ∀ w : Fin cfg1.W, Pipeline.arrRef spec1 w = r → (cfg1.win w).isOut = false) :
    X4 m c (Proc.devRef .tc r) = X3 m c (Proc.devRef .tc r) := by
  by_cases hw : ∃ w : Fin cfg1.W, Pipeline.arrRef spec1 w = r
  · obtain ⟨w, rfl⟩ := hw
    exact (X4_arr m c w).trans (((dat1 (fun c b => X3 m c b) c).arrAt_in w (h w rfl) _).trans (dat1_A (fun c b => X3 m c b) c w))
  · exact X4_of_ne m c r fun w e => hw ⟨w, e⟩

/-- At the end. -/
abbrev X5 (c : Dev nD) : Valuation τ sig (Elt F) := StableHlo.after hostOps2 (X4 m c)

/-- A buffer no item writes ends as launched. -/
theorem X5_of (c : Dev nD) (r : Ref sig .tc) (h0 : r ∉ hostOps0_W) (h1 : ∀ w : Fin cfg0.W, Pipeline.arrRef spec0 w = r → (cfg0.win w).isOut = false)
    (h2 : r ∉ hostOps1_W) (h3 : ∀ w : Fin cfg1.W, Pipeline.arrRef spec1 w = r → (cfg1.win w).isOut = false) (h4 : r ∉ hostOps2_W) :
    X5 m c (Proc.devRef .tc r) = m ((c : Thread nD τ).loc r) :=
  (StableHlo.after_of_writes_sub hostOps2 _ hostOps2_writes h4).trans <| (X4_of m c r h3).trans <|
    (StableHlo.after_of_writes_sub hostOps1 _ hostOps1_writes h2).trans <| (X2_of m c r h1).trans <|
      StableHlo.after_of_writes_sub hostOps0 _ hostOps0_writes h0

/-! ## @main as segments -/

/-- The calls' proof data, each at what its call finds. -/
def pdats : (p : Fin 2) → (c : Dev nD) → Dat τ (Elt F) Unit ℕ (UR sig nD τ) ℕ (Pipeline.pin (pcfgs (F := F)) adm p) c
  | ⟨0, _⟩ => fun c => dat0 (fun c b => X1 m c b) c
  | ⟨1, _⟩ => fun c => dat1 (fun c b => X3 m c b) c
abbrev noLevel : GSem nD τ sig → Finset Unit := fun _ => ∅
abbrev zeroLevel : GSem nD τ sig → Unit → ℕ := fun _ _ => 0
/-- What rides beside the buffers: the generator's register, and that the core owes nothing. -/
abbrev rest (c : Dev nD) : sProp 𝕄 := iprop((∃ r, prngReg c r) ∗ ∃ W, owes (c : Thread nD τ) (0 : CellTallies nD τ sig Unit) W)
/-- A stretch of host operations as a segment from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLevel zeroLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest
/-- What the last segment leaves, without that nothing is owed. -/
abbrev done (c : Dev nD) : sProp 𝕄 := iprop(StableHlo.held (c : Thread nD τ) (Pipeline.ucRefs τ sig) (X5 m c) ∗ ∃ r, prngReg c r)

-- every step's ids keep inside the accumulator
variable (hrows : ∀ (c : Dev nD) t, RowsOk (blk0 (fun c b => X1 m c b) c 0 t))
include hrows

set_option backward.isDefEq.respectTransparency.types false in
/-- Call 0 as a segment: entered with every unscoped buffer at `X1`, left with them at `X2`. -/
def call0 : Pipeline.RegionSeg (pcfgs (F := F)) adm (pdats m) () defs₀ Variants.none noLevel zeroLevel 0 where
  win := launch0.win.to₀
  block_pos := launch0.block_pos
  stage_whole := launch0.stage_whole
  K := PEmpty
  osem k := k.elim
  ho := Pipeline.OwnSemFacts.none _
  hbody c := (body_ok0 (fun c b => X1 m c b) c (hrows c)).loose
  hwaits := Pipeline.hwaits_of_owed_zero _ _ _ _ noLevel zeroLevel 0 fun _ _ => rfl
  pre c := iprop(StableHlo.held (c : Thread nD τ) (Pipeline.ucRefs τ sig) (X1 m c) ∗ rest c)
  post c := iprop(StableHlo.held (c : Thread nD τ) (Pipeline.ucRefs τ sig) (X2 m c) ∗ rest c)
  X c := iprop(∃ r, prngReg c r)
  Y c := iprop(∃ r, prngReg c r)
  Z c := Pipeline.unscopedRest (Ix := Unit) (Name := ℕ) (U := UR sig nD τ) (Lvl := ℕ) spec0 c (fun b => X1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => X1 m c b) (dat0_A (fun c b => X1 m c b) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => X1 m c b) (fun b => X2 m c b) ((pdats m 0 c).arrAt · cfg0.N) (fun w => (X2_arr m c w).symm)
      (fun b hb => X2_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

omit hrows in
set_option backward.isDefEq.respectTransparency.types false in
/-- Call 1 as a segment: entered with every unscoped buffer at `X3`, left with them at `X4`. -/
def call1 : Pipeline.RegionSeg (pcfgs (F := F)) adm (pdats m) () defs₀ Variants.none noLevel zeroLevel 1 where
  win := launch1.win.to₀
  block_pos := launch1.block_pos
  stage_whole := launch1.stage_whole
  K := PEmpty
  osem k := k.elim
  ho := Pipeline.OwnSemFacts.none _
  hbody c := (body_ok1 (fun c b => X3 m c b) c).loose
  hwaits := Pipeline.hwaits_of_owed_zero _ _ _ _ noLevel zeroLevel 1 fun _ _ => rfl
  pre c := iprop(StableHlo.held (c : Thread nD τ) (Pipeline.ucRefs τ sig) (X3 m c) ∗ rest c)
  post c := iprop(StableHlo.held (c : Thread nD τ) (Pipeline.ucRefs τ sig) (X4 m c) ∗ rest c)
  X c := iprop(∃ r, prngReg c r)
  Y c := iprop(∃ r, prngReg c r)
  Z c := Pipeline.unscopedRest (Ix := Unit) (Name := ℕ) (U := UR sig nD τ) (Lvl := ℕ) spec1 c (fun b => X3 m c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => X3 m c b) (dat1_A (fun c b => X3 m c b) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => X3 m c b) (fun b => X4 m c b) ((pdats m 1 c).arrAt · cfg1.N) (fun w => (X4_arr m c w).symm)
      (fun b hb => X4_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's five segments. -/
abbrev segments : List (Pipeline.Seg (pcfgs (F := F)) adm (pdats m) () defs₀ Variants.none noLevel zeroLevel) :=
  [ .host (stretch hostOps0 hostOps0_sub hostOps0_fresh (X0 m)),
    .region (call0 m hrows),
    .host (stretch hostOps1 hostOps1_sub hostOps1_fresh (X2 m)),
    .region (call1 m),
    .host (stretch hostOps2 hostOps2_sub hostOps2_fresh (X4 m)) ]

set_option backward.isDefEq.respectTransparency.types false in
/-- The run: given that every step's ids keep inside the accumulator, every execution ends, with every unscoped buffer at
    `X5` and every counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = X5 m c b) ∧ r.2.sem = fun _ => 0) :=
  Pipeline.θ_run_regions_kit_sems (pcfgs (F := F)) adm (pdats m) () cellOf_inj emb₁ defs₀ Variants.none noLevel zeroLevel m ρ main (segments m hrows)
    (fun c Q => by rw [show main (F := F) c = Pipeline.Seg.run (segments m hrows) from (main_chain c).trans (by chain_rfl)])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ rest c)) (Tₙ := done m)
    (hch := ⟨fun _ => .rfl, fun _ => .rfl, fun _ => .rfl, fun _ => .rfl, fun _ => .rfl, fun c => by
      dsimp only [Pipeline.Seg.post, stretch, Pipeline.HostSeg.ofOps]
      iintro ⟨Hh, Hp, HO⟩
      isplitl [Hh Hp]
      · isplitl [Hh]; · iexact Hh
        iexact Hp
      iexact HO⟩)
    (hinit := by
      refine Pipeline.initEach noLevel zeroLevel fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X5 m c b)
    (hfin := fun c s' => by
      iintro ⟨⟨Hh, -⟩, HSI⟩
      unfold StableHlo.held
      imodintro
      iapply (pointsTo_read_all (Pipeline.ucRefs τ sig) (fun b => (((c : Thread nD τ)).1, b)) (X5 m c) s')
      isplitl [Hh] <;> iassumption)
    (hQ := fun s h hz => ⟨h, funext fun g => hz g (.inr (regions_no_unscoped g.2))⟩)

omit hrows in
/-- An unscoped buffer is among those the run speaks of. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run with the arguments read back and the two results at the last contents. -/
theorem run_values : θ_run defs (onTc (τ := τ) (main (F := F))) ⟨m, fun _ => 0, ρ⟩ (fun r =>
      (∀ c : Dev nD, (∀ b ∈ ([main_arg0, main_arg1, main_arg2, main_arg3, main_arg4, main_arg5, main_arg6] : List (Ref sig .tc)),
          r.2.mem ((c.tc : Thread nD τ).loc b) = m ((c.tc : Thread nD τ).loc b))
        ∧ r.2.mem ((c.tc : Thread nD τ).loc main_v7) = X5 m c (Proc.devRef .tc main_v7)
        ∧ r.2.mem ((c.tc : Thread nD τ).loc main_v8) = X5 m c (Proc.devRef .tc main_v8))
      ∧ r.2.sem = fun _ => 0) :=
  (θ_run defs _ _).mono (fun r h => ⟨fun c => ⟨fun b hb =>
      (h.1 c _ (mem_unscoped b (by revert b; decide))).trans (X5_of m c b (by revert b; decide) (by revert b; decide) (by revert b; decide)
        (by revert b; decide) (by revert b; decide)),
    h.1 c _ (mem_unscoped main_v7 (by decide)), h.1 c _ (mem_unscoped main_v8 (by decide))⟩, h.2⟩) (run m ρ hrows)

end Cert.KernelIdeal.Hand

end
-- ==== Proof.Ids.lean ====
module

public import proofs.«01_k».proof.Proof.Segmax
public import Idealize.ShloMosaic.Lib.Pointwise
public import Idealize.ShloMosaic.Lib.Tactic.WordOmega
public import Idealize.ShloMosaic.Lib.WordCmp
public import Idealize.ShloMosaic.Lib.Tactic

@[expose] public section

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The id of the block's point `j`. -/
def idAt (ids : Vec F S1x1x2560 .i32) (j : Fin 2560) : BitVec 32 := ids (ix3 (0 : Fin 1) (0 : Fin 1) j)

theorem row_apply (ids : Vec F S1x1x2560 .i32) (j : Fin 2560) : k0_pay6 ids (ix2 (0 : Fin 1) j) = idAt ids j := by
  unfold idAt
  pointwise [k0_pay6, k0_pay5]

theorem lo_eq (ids : Vec F S1x1x2560 .i32) : lo ids = Finset.univ.fold IntOp.minsi 2147483647#32 (idAt ids) := by
  unfold lo idAt
  pointwise [k0_pay7, k0_pay5]

theorem hi_eq (ids : Vec F S1x1x2560 .i32) : hi ids = Finset.univ.fold IntOp.maxsi 2147483648#32 (idAt ids) := by
  unfold hi idAt
  pointwise [k0_pay8, k0_pay5]

theorem toInt_minsi (x y : BitVec 32) : (IntOp.minsi x y).toInt = min x.toInt y.toInt := by
  unfold IntOp.minsi; rw [BitVec.slt_eq_decide]
  simp only [decide_eq_true_eq]
  split <;> omega

theorem toInt_maxsi (x y : BitVec 32) : (IntOp.maxsi x y).toInt = max x.toInt y.toInt := by
  unfold IntOp.maxsi; rw [BitVec.slt_eq_decide]
  simp only [decide_eq_true_eq]
  split <;> omega

/-- A fold by the signed minimum, read as an integer, is the fold of the integers by the minimum. -/
theorem toInt_fold_minsi {ι : Type} (s : Finset ι) (b : BitVec 32) (f : ι → BitVec 32) :
    (s.fold IntOp.minsi b f).toInt = s.fold min b.toInt fun i => (f i).toInt :=
  (Finset.fold_hom (m := BitVec.toInt) (fun x y => toInt_minsi x y)).symm

/-- A fold by the signed maximum, read as an integer, is the fold of the integers by the maximum. -/
theorem toInt_fold_maxsi {ι : Type} (s : Finset ι) (b : BitVec 32) (f : ι → BitVec 32) :
    (s.fold IntOp.maxsi b f).toInt = s.fold max b.toInt fun i => (f i).toInt :=
  (Finset.fold_hom (m := BitVec.toInt) (fun x y => toInt_maxsi x y)).symm

/-- The ids of a block are superpoints'. -/
def InRange (ids : Vec F S1x1x2560 .i32) : Prop := ∀ j, 0 ≤ (idAt ids j).toInt ∧ (idAt ids j).toInt < 4096

/-- The smallest id is below every id. -/
theorem lo_le (ids : Vec F S1x1x2560 .i32) (j : Fin 2560) : (lo ids).toInt ≤ (idAt ids j).toInt := by
  rw [lo_eq, toInt_fold_minsi]
  exact ((Finset.le_fold_min _).mp le_rfl).2 j (Finset.mem_univ j)

/-- The largest id is above every id. -/
theorem le_hi (ids : Vec F S1x1x2560 .i32) (j : Fin 2560) : (idAt ids j).toInt ≤ (hi ids).toInt := by
  rw [hi_eq, toInt_fold_maxsi]
  exact ((Finset.fold_max_le (Finset.univ.fold max (2147483648#32 : BitVec 32).toInt fun i => (idAt ids i).toInt)).mp le_rfl).2 j (Finset.mem_univ j)

theorem lo_nonneg {ids : Vec F S1x1x2560 .i32} (h : InRange ids) : 0 ≤ (lo ids).toInt := by
  rw [lo_eq, toInt_fold_minsi, Finset.le_fold_min]
  exact ⟨by decide, fun j _ => (h j).1⟩

theorem hi_lt {ids : Vec F S1x1x2560 .i32} (h : InRange ids) : (hi ids).toInt < 4096 := by
  rw [hi_eq, toInt_fold_maxsi, Finset.fold_max_lt]
  exact ⟨by decide, fun j _ => (h j).2⟩

theorem lo_le_hi (ids : Vec F S1x1x2560 .i32) : (lo ids).toInt ≤ (hi ids).toInt := (lo_le ids 0).trans (le_hi ids 0)

/-- A sum of words is the sum of the integers when that is in range. -/
theorem toInt_add_of (a c : BitVec 32) (h0 : -2147483648 ≤ a.toInt + c.toInt) (h1 : a.toInt + c.toInt < 2147483648) :
    (a + c).toInt = a.toInt + c.toInt := by
  rw [BitVec.toInt_add]; exact Int.bmod_eq_of_le (by omega) (by omega)

theorem add_sub_word (x y : BitVec 32) : x + (y - x) = y := by
  rw [BitVec.add_comm, BitVec.sub_add_cancel]

/-- How many rows past the first 256 the block's ids reach. -/
theorem trip_count {a b : BitVec 32} (ha : 0 ≤ a.toInt) (hb : b.toInt < 4096) (hab : a.toInt ≤ b.toInt) :
    (k0_t1_loop a b).trips = (b.toInt - a.toInt - 255).toNat := by
  have h1 : ∀ v : BitVec 32, Scalar.muli (Scalar.divsi v 1#32) 1#32 = v := by
    intro v
    have hc : ¬ IntOp.SDivCorner v 1#32 := by unfold IntOp.SDivCorner; simp
    simp [Scalar.muli, Scalar.divsi, IntOp.muli, IntOp.divsi, BitVec.sdiv_one, hc]
  have h2 : Scalar.addi (Scalar.addi a 256#32) (Scalar.subi (Scalar.addi b 1#32) (Scalar.addi a 256#32)) = b + 1#32 :=
    add_sub_word (a + 256#32) (b + 1#32)
  have h3 : (b + 1#32).toInt = b.toInt + 1 := toInt_add_of b 1#32 (by simp; omega) (by simp; omega)
  have h4 : (Scalar.addi a 256#32).toInt = a.toInt + 256 := toInt_add_of a 256#32 (by simp; omega) (by simp; omega)
  have h5 : (1#32).toInt = 1 := rfl
  simp only [Scf.Loop.trips, Scf.trips, h1, h2, h3, h4, h5, Int.ediv_one]
  congr 1; omega

/-- The word of trip `k`'s row. -/
theorem trip_row {a b : BitVec 32} (ha : 0 ≤ a.toInt) (hb : b.toInt < 4096) (hab : a.toInt ≤ b.toInt) (k : Fin (k0_t1_loop a b).trips) :
    (Scf.iv (Scalar.addi a 256#32) 1#32 k).toInt = a.toInt + 256 + k.val := by
  have hk := lt_of_lt_of_eq k.isLt (trip_count ha hb hab)
  have h4 : (Scalar.addi a 256#32).toInt = a.toInt + 256 := toInt_add_of a 256#32 (by simp; omega) (by simp; omega)
  have h6 : (BitVec.ofNat 32 k.val).toInt = (k.val : ℤ) := WordCmp.toInt_ofNat_of_lt (by simp; omega)
  unfold Scf.iv
  rw [BitVec.mul_one, toInt_add_of _ _ (by omega) (by omega), h4, h6]

theorem toNat_of_toInt {a : BitVec 32} (ha : 0 ≤ a.toInt) : a.toNat = a.toInt.toNat := by
  have := BitVec.toInt_eq_toNat_cond a
  have h := a.isLt
  split at this <;> omega

theorem chk1_ok {a : BitVec 32} (ha : 0 ≤ a.toInt) (hb : a.toInt < 4096) : k0_chk1 a := by
  have := toNat_of_toInt ha
  have h0 : a.toNat + 256 ≤ 4352 := by omega
  exact fun x => match x with | ⟨0, _⟩ => h0 | ⟨1, _⟩ => le_rfl

theorem chk2_ok {a b : BitVec 32} (ha : 0 ≤ a.toInt) (hb : b.toInt < 4096) (hab : a.toInt ≤ b.toInt) : k0_chk2 a b := by
  have h1 : ∀ v : BitVec 32, Scalar.muli (Scalar.divsi v 1#32) 1#32 = v := by
    intro v
    have hc : ¬ IntOp.SDivCorner v 1#32 := by unfold IntOp.SDivCorner; simp
    simp [Scalar.muli, Scalar.divsi, IntOp.muli, IntOp.divsi, BitVec.sdiv_one, hc]
  have h2 : Scalar.addi (Scalar.addi a 256#32) (Scalar.subi (Scalar.addi b 1#32) (Scalar.addi a 256#32)) = b + 1#32 :=
    add_sub_word (a + 256#32) (b + 1#32)
  have h3 : (b + 1#32).toInt = b.toInt + 1 := toInt_add_of b 1#32 (by simp; omega) (by simp; omega)
  have h4 : (Scalar.addi a 256#32).toInt = a.toInt + 256 := toInt_add_of a 256#32 (by simp; omega) (by simp; omega)
  have h5 : (1#32).toInt = 1 := rfl
  refine ⟨⟨Int.zero_lt_one, ?_⟩, fun k => ?_, ⟨Int.zero_lt_one, ?_⟩, fun k => absurd (lt_of_lt_of_eq k.isLt (no_trip a b)) (Nat.not_lt_zero _)⟩
  · show (Scalar.addi a 256#32).toInt + ((k0_t1_loop a b).trips : ℤ) * (1#32).toInt < 2 ^ 31
    rw [trip_count ha hb hab, h4, h5]; omega
  · have hk := lt_of_lt_of_eq k.isLt (trip_count ha hb hab)
    have h6 := trip_row ha hb hab k
    have h7 := toNat_of_toInt (a := Scf.iv (Scalar.addi a 256#32) 1#32 k) (by omega)
    have h0 : (Scf.iv (Scalar.addi a 256#32) 1#32 k).toNat + 1 ≤ 4352 := by omega
    exact fun x => match x with | ⟨0, _⟩ => h0 | ⟨1, _⟩ => le_rfl
  · show (k0_t2_loop a b).lb.toInt + ((k0_t2_loop a b).trips : ℤ) * (1#32).toInt < 2 ^ 31
    rw [no_trip]
    simp only [h1, h2, h3]; omega

/-- Every row a step touches lies inside the accumulator. -/
theorem rows_ok {ids : Vec F S1x1x2560 .i32} (h : InRange ids) : RowsOk ids :=
  ⟨chk1_ok (lo_nonneg h) ((lo_le_hi ids).trans_lt (hi_lt h)), chk2_ok (lo_nonneg h) (hi_lt h) (lo_le_hi ids)⟩

end Cert.KernelIdeal.Hand
end
-- ==== Proof.Blocks.lean ====
module

public import proofs.«01_k».proof.Proof.Run
public import proofs.«01_k».proof.Proof.Ids
public import Idealize.ShloMosaic.Lib.StableHlo.ReadAt

@[expose] public section

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD)

/-! ## What the calls are handed, in terms of the arguments -/

/-- The points' superpoint ids. -/
abbrev A1 : IVec S320000 32 := m ((c : Thread nD τ).loc main_arg1)
/-- The points' features. -/
abbrev A0 : FVec F S320000x128 .f32 := m ((c : Thread nD τ).loc main_arg0)
/-- The superpoints' group ids. -/
abbrev A2 : IVec S4096 32 := m ((c : Thread nD τ).loc main_arg2)
/-- The weights and biases of the two layers. -/
abbrev A3 : FVec F S128x64 .f32 := m ((c : Thread nD τ).loc main_arg3)
abbrev A4 : FVec F S64 .f32 := m ((c : Thread nD τ).loc main_arg4)
abbrev A5 : FVec F S64x64 .f32 := m ((c : Thread nD τ).loc main_arg5)
abbrev A6 : FVec F S64 .f32 := m ((c : Thread nD τ).loc main_arg6)

/-- The blocks of the first call at step `t`. -/
abbrev ids (t : Fin cfg0.N) : Vec F S1x1x2560 .i32 := blk0 (fun c b => X1 m c b) c 0 t
abbrev xs (t : Fin cfg0.N) : Vec F S2560x128 .f32 := blk0 (fun c b => X1 m c b) c 1 t
abbrev w1s (t : Fin cfg0.N) : Vec F S128x64 .f32 := blk0 (fun c b => X1 m c b) c 2 t
abbrev b1s (t : Fin cfg0.N) : Vec F S64x1 .f32 := blk0 (fun c b => X1 m c b) c 3 t
abbrev w2s (t : Fin cfg0.N) : Vec F S64x64 .f32 := blk0 (fun c b => X1 m c b) c 4 t
abbrev b2s (t : Fin cfg0.N) : Vec F S64x1 .f32 := blk0 (fun c b => X1 m c b) c 5 t

theorem index0_0 : ∀ t : Fin cfg0.N, win0_0.index t 0 = t.val ∧ win0_0.index t 1 = 0 ∧ win0_0.index t 2 = 0 := by decide +kernel
theorem index0_1 : ∀ t : Fin cfg0.N, win0_1.index t 0 = t.val ∧ win0_1.index t 1 = 0 := by decide +kernel
theorem index0_2 : ∀ t : Fin cfg0.N, win0_2.index t 0 = 0 ∧ win0_2.index t 1 = 0 := by decide +kernel
theorem index0_3 : ∀ t : Fin cfg0.N, win0_3.index t 0 = 0 ∧ win0_3.index t 1 = 0 := by decide +kernel
theorem index0_4 : ∀ t : Fin cfg0.N, win0_4.index t 0 = 0 ∧ win0_4.index t 1 = 0 := by decide +kernel
theorem index0_5 : ∀ t : Fin cfg0.N, win0_5.index t 0 = 0 ∧ win0_5.index t 1 = 0 := by decide +kernel

/-- Point `j` of step `t`, among all points. -/
def point (t : Fin cfg0.N) (j : Fin 2560) : Fin 320000 := ⟨2560 * t.val + j.val, by have := t.isLt; have := j.isLt; have e : cfg0.N = 125 := N_0; omega⟩

theorem v0_apply (t : Fin 125) (j : Fin 2560) (i : Fin 320000) (h : i.val = 2560 * t.val + j.val) :
    (X1 m c (Proc.devRef .tc main_v0) : Vec F S125x1x2560 .i32) (ix3 t (0 : Fin 1) j) = A1 m c (ix1 i) := by
  have e : (X1 m c (Proc.devRef .tc main_v0) : Vec F S125x1x2560 .i32) = shapeCast S125x1x2560 (A1 m c) shapeCasts_S320000_S125x1x2560 := by
    simp only [X1, hostOps0]
    after_reads_simp
    rfl
  rw [e]
  exact shapeCast_apply _ _ _ _ (by
    rw [Shape.rowMajor_val_one, Shape.rowMajor_val_three]
    show i.val = (t.val * 1 + 0) * 2560 + j.val
    omega)

theorem v1_apply (i : Fin 64) : (X1 m c (Proc.devRef .tc main_v1) : Vec F S64x1 .f32) (ix2 i (0 : Fin 1)) = A4 m c (ix1 i) := by
  have e : (X1 m c (Proc.devRef .tc main_v1) : Vec F S64x1 .f32) = shapeCast S64x1 (A4 m c) shapeCasts_S64_S64x1 := by
    simp only [X1, hostOps0]
    after_reads_simp
    rfl
  rw [e]
  pointwise

theorem v2_apply (i : Fin 64) : (X1 m c (Proc.devRef .tc main_v2) : Vec F S64x1 .f32) (ix2 i (0 : Fin 1)) = A6 m c (ix1 i) := by
  have e : (X1 m c (Proc.devRef .tc main_v2) : Vec F S64x1 .f32) = shapeCast S64x1 (A6 m c) shapeCasts_S64_S64x1 := by
    simp only [X1, hostOps0]
    after_reads_simp
    rfl
  rw [e]
  pointwise

theorem ids_apply (t : Fin cfg0.N) (j : Fin 2560) : idAt (ids m c t) j = A1 m c (ix1 (point t j)) := by
  have hi := index0_0 t
  unfold idAt
  refine Eq.trans ?_ (v0_apply m c t j (point t j) rfl)
  show (X1 m c (Proc.devRef .tc main_v0) : Vec F S125x1x2560 .i32) _ = _
  congr 1
  funext a
  apply Fin.ext
  match a with
  | ⟨0, _⟩ => show win0_0.index t 0 * 1 + 1 * 0 = t.val; rw [hi.1]; omega
  | ⟨1, _⟩ => show win0_0.index t 1 * 1 + 1 * 0 = 0; rw [hi.2.1]
  | ⟨2, _⟩ => show win0_0.index t 2 * 2560 + 1 * j.val = j.val; rw [hi.2.2]; omega

theorem X1_args (r : Ref sig .tc) (h : r ∉ hostOps0_W) : X1 m c (Proc.devRef .tc r) = m ((c : Thread nD τ).loc r) :=
  StableHlo.after_of_writes_sub hostOps0 _ hostOps0_writes h

theorem xs_apply (t : Fin cfg0.N) (j : Fin 2560) (d : Fin 128) : xs m c t (ix2 j d) = A0 m c (ix2 (point t j) d) := by
  have hi := index0_1 t
  unfold A0
  rw [← X1_args m c main_arg0 (by decide)]
  show (X1 m c (Proc.devRef .tc main_arg0) : FVec F S320000x128 .f32) _ = (X1 m c (Proc.devRef .tc main_arg0) : FVec F S320000x128 .f32) _
  congr 1
  funext a
  apply Fin.ext
  match a with
  | ⟨0, _⟩ => show win0_1.index t 0 * 2560 + 1 * j.val = 2560 * t.val + j.val; rw [hi.1]; omega
  | ⟨1, _⟩ => show win0_1.index t 1 * 128 + 1 * d.val = d.val; rw [hi.2]; omega

theorem w1s_apply (t : Fin cfg0.N) (d : Fin 128) (f : Fin 64) : w1s m c t (ix2 d f) = A3 m c (ix2 d f) := by
  have hi := index0_2 t
  unfold A3
  rw [← X1_args m c main_arg3 (by decide)]
  show (X1 m c (Proc.devRef .tc main_arg3) : FVec F S128x64 .f32) _ = (X1 m c (Proc.devRef .tc main_arg3) : FVec F S128x64 .f32) _
  congr 1
  funext a
  apply Fin.ext
  match a with
  | ⟨0, _⟩ => show win0_2.index t 0 * 128 + 1 * d.val = d.val; rw [hi.1]; omega
  | ⟨1, _⟩ => show win0_2.index t 1 * 64 + 1 * f.val = f.val; rw [hi.2]; omega

theorem w2s_apply (t : Fin cfg0.N) (d : Fin 64) (f : Fin 64) : w2s m c t (ix2 d f) = A5 m c (ix2 d f) := by
  have hi := index0_4 t
  unfold A5
  rw [← X1_args m c main_arg5 (by decide)]
  show (X1 m c (Proc.devRef .tc main_arg5) : FVec F S64x64 .f32) _ = (X1 m c (Proc.devRef .tc main_arg5) : FVec F S64x64 .f32) _
  congr 1
  funext a
  apply Fin.ext
  match a with
  | ⟨0, _⟩ => show win0_4.index t 0 * 64 + 1 * d.val = d.val; rw [hi.1]; omega
  | ⟨1, _⟩ => show win0_4.index t 1 * 64 + 1 * f.val = f.val; rw [hi.2]; omega

theorem b1s_apply (t : Fin cfg0.N) (f : Fin 64) : b1s m c t (ix2 f (0 : Fin 1)) = A4 m c (ix1 f) := by
  have hi := index0_3 t
  refine Eq.trans ?_ (v1_apply m c f)
  show (X1 m c (Proc.devRef .tc main_v1) : Vec F S64x1 .f32) _ = _
  congr 1
  funext a
  apply Fin.ext
  match a with
  | ⟨0, _⟩ => show win0_3.index t 0 * 64 + 1 * f.val = f.val; rw [hi.1]; omega
  | ⟨1, _⟩ => show win0_3.index t 1 * 1 + 1 * 0 = 0; rw [hi.2]

theorem b2s_apply (t : Fin cfg0.N) (f : Fin 64) : b2s m c t (ix2 f (0 : Fin 1)) = A6 m c (ix1 f) := by
  have hi := index0_5 t
  refine Eq.trans ?_ (v2_apply m c f)
  show (X1 m c (Proc.devRef .tc main_v2) : Vec F S64x1 .f32) _ = _
  congr 1
  funext a
  apply Fin.ext
  match a with
  | ⟨0, _⟩ => show win0_5.index t 0 * 64 + 1 * f.val = f.val; rw [hi.1]; omega
  | ⟨1, _⟩ => show win0_5.index t 1 * 1 + 1 * 0 = 0; rw [hi.2]

/-- When the points' ids are superpoints', every step's ids keep inside the accumulator. -/
theorem all_rows (h : ∀ i : Fin 320000, 0 ≤ (A1 m c (ix1 i)).toInt ∧ (A1 m c (ix1 i)).toInt < 4096) (t : Fin cfg0.N) :
    InRange (ids m c t) := fun j => by rw [ids_apply]; exact h _

end Cert.KernelIdeal.Hand
end
-- ==== Proof.Pre.lean ====
module

public import proofs.«01_k».proof.Proof.Ids
public import proofs.«01_k».proof.Proof.Gen.Pre_ids_in_range
public import proofs.«01_k».proof.Proof.Gen.Pre_ids_ok
public import Idealize.ShloMosaic.Lib.ReduceAll

@[expose] public section

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the precondition says of the two id arrays: the points' ids are superpoints' and sorted, and the superpoints'
    ids are groups'. -/
structure IdsOk (a1 : IVec S320000 32) (a2 : IVec S4096 32) : Prop where
  range : ∀ i : Fin 320000, 0 ≤ (a1 (ix1 i)).toInt ∧ (a1 (ix1 i)).toInt < 4096
  sorted : ∀ i j : Fin 320000, i ≤ j → (a1 (ix1 i)).toInt ≤ (a1 (ix1 j)).toInt
  range2 : ∀ i : Fin 4096, 0 ≤ (a2 (ix1 i)).toInt ∧ (a2 (ix1 i)).toInt < 64

theorem andi_one {x y : BitVec 1} (h : IntOp.andi x y = 1#1) : x = 1#1 ∧ y = 1#1 := by
  revert x y; decide

theorem sorted_of_step {n : ℕ} (f : Fin (n + 1) → ℤ) (h : ∀ i : Fin n, f i.castSucc ≤ f i.succ) (i j : Fin (n + 1)) (hij : i ≤ j) :
    f i ≤ f j := Fin.monotone_iff_le_succ.mpr h hij

/-- The two comparisons of a range check. -/
theorem range_one (x n : BitVec 32) (e : IntOp.andi (IntOp.cmpi .sge x 0#32) (IntOp.cmpi .slt x n) = 1#1) : 0 ≤ x.toInt ∧ x.toInt < n.toInt := by
  obtain ⟨e1, e2⟩ := andi_one e
  exact ⟨(WordCmp.ofBool_decide_eq_one_iff _).mp e1, (WordCmp.ofBool_decide_eq_one_iff _).mp e2⟩

open Cert.Pre_ids_in_range Cert.Pre_ids_in_range.Facts in
/-- The frames' printed precondition gives the range of the points' ids. -/
theorem ids_in_range_of {a0 : FVec F Cert.KernelIdeal.S320000x128 .f32} {a1 : IVec Cert.KernelIdeal.S320000 32} {a2 : IVec Cert.KernelIdeal.S4096 32} {a3 : FVec F Cert.KernelIdeal.S128x64 .f32}
    {a4 : FVec F Cert.KernelIdeal.S64 .f32} {a5 : FVec F Cert.KernelIdeal.S64x64 .f32} {a6 : FVec F Cert.KernelIdeal.S64 .f32}
    (h : Cert.Pre_ids_in_range.fn (F := F) a0 a1 a2 a3 a4 a5 a6 = fun _ => 1#1) (i : Fin 320000) : 0 ≤ (a1 (ix1 i)).toInt ∧ (a1 (ix1 i)).toInt < 4096 := by
  have h0 := congrFun h ix0
  unfold Cert.Pre_ids_in_range.fn at h0
  exact range_one _ 4096#32 (Host.reduce_andi_all _ _ _ _ _ h0 (ix1 i))

open Cert.Pre_ids_ok Cert.Pre_ids_ok.Facts in
/-- The printed precondition gives these facts. -/
theorem ids_ok_of {a0 : FVec F Cert.KernelIdeal.S320000x128 .f32} {a1 : IVec Cert.KernelIdeal.S320000 32} {a2 : IVec Cert.KernelIdeal.S4096 32} {a3 : FVec F Cert.KernelIdeal.S128x64 .f32}
    {a4 : FVec F Cert.KernelIdeal.S64 .f32} {a5 : FVec F Cert.KernelIdeal.S64x64 .f32} {a6 : FVec F Cert.KernelIdeal.S64 .f32}
    (h : Cert.Pre_ids_ok.fn (F := F) a0 a1 a2 a3 a4 a5 a6 = fun _ => 1#1) : IdsOk a1 a2 := by
  have h0 := congrFun h ix0
  unfold Cert.Pre_ids_ok.fn Cert.Pre_ids_ok.fn_part1 at h0
  obtain ⟨h1, h2⟩ := andi_one h0
  obtain ⟨h3, h4⟩ := andi_one h1
  refine ⟨fun i => range_one _ 4096#32 (Host.reduce_andi_all _ _ _ _ _ h3 (ix1 i)), ?_,
    fun i => range_one _ 64#32 (Host.reduce_andi_all _ _ _ _ _ h2 (ix1 i))⟩
  refine sorted_of_step (n := 319999) (fun i => (a1 (ix1 i)).toInt) fun i => ?_
  have e := Host.reduce_andi_all _ _ _ _ _ h4 (ix1 i)
  have e' : IntOp.cmpi .sle (extractStridedSlice Cert.Pre_ids_ok.S319999 ![0] a1 slices_S320000_S319999_0 (ix1 i))
      (extractStridedSlice Cert.Pre_ids_ok.S319999 ![1] a1 slices_S320000_S319999_1 (ix1 i)) = 1#1 := e
  have e1 : extractStridedSlice Cert.Pre_ids_ok.S319999 ![0] a1 slices_S320000_S319999_0 (ix1 i) = a1 (ix1 (i.castSucc : Fin 320000)) :=
    extractStridedSlice_apply _ _ _ _ _ fun a => match a with | ⟨0, _⟩ => (Nat.zero_add _).symm
  have e2 : extractStridedSlice Cert.Pre_ids_ok.S319999 ![1] a1 slices_S320000_S319999_1 (ix1 i) = a1 (ix1 (i.succ : Fin 320000)) :=
    extractStridedSlice_apply _ _ _ _ _ fun a => match a with | ⟨0, _⟩ => Nat.add_comm _ _
  rw [e1, e2] at e'
  exact (WordCmp.ofBool_decide_eq_one_iff _).mp e'

end Cert.KernelIdeal.Hand
end
-- ==== Proof.Same.lean ====
module

public import proofs.«01_k».proof.Proof.Gen.Kernel
public import proofs.«01_k».proof.Proof.Gen.KernelIdeal

/-! The kernel is printed twice, once for each of its two number systems. The two printings are the same program. -/

@[expose] public section

noncomputable section
open Idealize.ShloMosaic Idealize.SL.Sem

namespace Cert.KernelIdeal.Hand

local instance kernelFacts : Cert.Kernel.Facts := Cert.Kernel.Gen.facts
local instance kernelIdealFacts : Cert.KernelIdeal.Facts := Cert.KernelIdeal.Gen.facts
variable {F : FTy → Type} [FloatOps F]

/-- The two printings of the kernel hold the same table of flags. -/
theorem same_flags : Cert.Kernel.lit0 = Cert.KernelIdeal.lit0 := by
  funext i
  rfl

/-- The two printings of the kernel have the same bodies. -/
theorem same_bodies :
    (Cert.Kernel.defs₀ (F := F)) = (Cert.KernelIdeal.defs₀ (F := F)) := by
  unfold Cert.Kernel.defs₀ Cert.KernelIdeal.defs₀
  congr 1
  funext l x
  revert x
  fin_cases l
  all_goals intro x; rfl

/-- The two printings of the kernel have the same table of bodies and pipelines. -/
theorem same_defs : (Cert.Kernel.defs (F := F)) = (Cert.KernelIdeal.defs (F := F)) := by
  unfold Cert.Kernel.defs Cert.KernelIdeal.defs
  rw [same_bodies]
  rfl

/-- The two printings of the kernel have the same host program. -/
theorem same_main : (Cert.Kernel.main (F := F)) = (Cert.KernelIdeal.main (F := F)) := by
  unfold Cert.Kernel.main
  rw [same_flags]
  rfl
end Cert.KernelIdeal.Hand

end
-- ==== Proof.Frames.lean ====
module

public import proofs.«01_k».proof.Proof.Blocks
public import proofs.«01_k».proof.Proof.Pre
public import proofs.«01_k».proof.Proof.Same

@[expose] public section

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel's run from a memory whose ids are in range: the arguments stay and the results are the last valuation's. -/
theorem run_of_range (h : ∀ (c : Dev nD) (i : Fin 320000), 0 ≤ (A1 m c (ix1 i)).toInt ∧ (A1 m c (ix1 i)).toInt < 4096) :
    θ_run defs (onTc (τ := τ) (main (F := F))) ⟨m, fun _ => 0, ρ⟩ (fun r =>
      (∀ c : Dev nD, (∀ b ∈ ([main_arg0, main_arg1, main_arg2, main_arg3, main_arg4, main_arg5, main_arg6] : List (Ref sig .tc)),
          r.2.mem ((c.tc : Thread nD τ).loc b) = m ((c.tc : Thread nD τ).loc b))
        ∧ r.2.mem ((c.tc : Thread nD τ).loc main_v7) = X5 m c (Proc.devRef .tc main_v7)
        ∧ r.2.mem ((c.tc : Thread nD τ).loc main_v8) = X5 m c (Proc.devRef .tc main_v8))
      ∧ r.2.sem = fun _ => 0) :=
  run_values m ρ fun c t => rows_ok (all_rows m c (h c) t)

/-- With ids in range, the kernel leaves its arguments and its semaphores as they were. -/
theorem frame_of_range (h : ∀ (c : Dev nD) (i : Fin 320000), 0 ≤ (A1 m c (ix1 i)).toInt ∧ (A1 m c (ix1 i)).toInt < 4096) :
    θ_run defs (onTc (τ := τ) (main (F := F))) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))
      ∧ r.2.sem = fun _ => 0) :=
  (θ_run defs _ _).mono (fun r hr => ⟨fun c => ⟨(hr.1 c).1 _ (by simp), (hr.1 c).1 _ (by simp), (hr.1 c).1 _ (by simp),
    (hr.1 c).1 _ (by simp), (hr.1 c).1 _ (by simp), (hr.1 c).1 _ (by simp), (hr.1 c).1 _ (by simp)⟩, hr.2⟩) (run_of_range m ρ h)

end Cert.KernelIdeal.Hand

end
-- ==== Proof.Scan.lean ====
module

public import proofs.«01_k».proof.Proof.Ids

@[expose] public section

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The scan by rounds -/

/-- One row of a block shifted right by `k` places, `z` shifted in. -/
def shifted {α : Type} {w : ℕ} (k r n : ℕ) (z : α) (x : (⟨2, ![n, w]⟩ : Shape).Idx → α) (hs : (⟨2, ![n, w]⟩ : Shape).Slices ![0, 0] ⟨2, ![n, r]⟩)
    (hc : Shape.Concatenates [⟨2, ![n, k]⟩, ⟨2, ![n, r]⟩] ⟨2, ![n, w]⟩ 1) : (⟨2, ![n, w]⟩ : Shape).Idx → α :=
  concatenate ⟨2, ![n, w]⟩ 1 [⟨⟨2, ![n, k]⟩, fun _ => z⟩, ⟨⟨2, ![n, r]⟩, extractStridedSlice ⟨2, ![n, r]⟩ ![0, 0] x hs⟩] hc

/-- A shifted block at a place: what lies `k` places to the left, or what was shifted in. -/
theorem shifted_apply {α : Type} {w : ℕ} (k r n : ℕ) (z : α) (x : (⟨2, ![n, w]⟩ : Shape).Idx → α) (hs) (hc) (hk : k + r = w) (f : Fin n) (j : Fin w) :
    shifted k r n z x hs hc (ix2 f j) = if h : k ≤ j.val then x (ix2 f (⟨j.val - k, by omega⟩ : Fin w)) else z := by
  unfold shifted
  split
  · rename_i h
    rw [concatenate_pair_apply_right (s₁ := ⟨2, ![n, k]⟩) (s₂ := ⟨2, ![n, r]⟩) (t := ⟨2, ![n, w]⟩) 1 _ _ hc (ix2 f j) rfl rfl
      (ix2 f (⟨j.val - k, by have := j.isLt; omega⟩ : Fin r))]
    · refine extractStridedSlice_apply _ _ _ _ _ fun a => ?_
      match a with
      | ⟨0, _⟩ => show f.val = 0 + f.val; omega
      | ⟨1, _⟩ => show j.val - k = 0 + (j.val - k); omega
    · intro b hb
      match b with
      | ⟨0, _⟩ => rfl
      | ⟨1, _⟩ => exact absurd rfl hb
    · show j.val - k + k = j.val
      omega
  · rename_i h
    rw [concatenate_pair_apply_left (s₁ := ⟨2, ![n, k]⟩) (s₂ := ⟨2, ![n, r]⟩) (t := ⟨2, ![n, w]⟩) 1 _ _ hc (ix2 f j) rfl
      (ix2 f (⟨j.val, by omega⟩ : Fin k))]
    intro b
    match b with
    | ⟨0, _⟩ => rfl
    | ⟨1, _⟩ => rfl

/-- One round of the scan: a point takes the maximum with the point `k` places to its left when their ids are equal. -/
def round (k r : ℕ) (row : IVec S1x2560 32) (hs : S64x2560.Slices ![0, 0] ⟨2, ![64, r]⟩) (hc : Shape.Concatenates [⟨2, ![64, k]⟩, ⟨2, ![64, r]⟩] S64x2560 1)
    (hs' : S1x2560.Slices ![0, 0] ⟨2, ![1, r]⟩) (hc' : Shape.Concatenates [⟨2, ![1, k]⟩, ⟨2, ![1, r]⟩] S1x2560 1) (h : FVec F S64x2560 .f32) :
    FVec F S64x2560 .f32 :=
  select (broadcastTo S64x2560 (shapeCast S1x2560 (cmpi .eq row (shifted k r 1 4294967295#32 row hs' hc')) shapeCasts_S1x2560_S1x2560)
      broadcasts_S1x2560_S64x2560)
    (maximumf h (shifted k r 64 (Scalar.ofBits .f32 0x00000000#32) h hs hc)) h

/-- The finished scan is twelve rounds over the hidden layer. -/
theorem scan_rounds (ids : Vec F S1x1x2560 .i32) (x : Vec F S2560x128 .f32) (w1 : Vec F S128x64 .f32) (b1 : Vec F S64x1 .f32) (w2 : Vec F S64x64 .f32)
    (b2 : Vec F S64x1 .f32) : scan ids x w1 b1 w2 b2
      = round 2048 512 (k0_pay6 ids) slices_S64x2560_o0_0_S64x512 concatenates_S64x2048_S64x512_S64x2560_d1 slices_S1x2560_o0_0_S1x512 concatenates_S1x2048_S1x512_S1x2560_d1
        (round 1024 1536 (k0_pay6 ids) slices_S64x2560_o0_0_S64x1536 concatenates_S64x1024_S64x1536_S64x2560_d1 slices_S1x2560_o0_0_S1x1536 concatenates_S1x1024_S1x1536_S1x2560_d1
        (round 512 2048 (k0_pay6 ids) slices_S64x2560_o0_0_S64x2048 concatenates_S64x512_S64x2048_S64x2560_d1 slices_S1x2560_o0_0_S1x2048 concatenates_S1x512_S1x2048_S1x2560_d1
        (round 256 2304 (k0_pay6 ids) slices_S64x2560_o0_0_S64x2304 concatenates_S64x256_S64x2304_S64x2560_d1 slices_S1x2560_o0_0_S1x2304 concatenates_S1x256_S1x2304_S1x2560_d1
        (round 128 2432 (k0_pay6 ids) slices_S64x2560_o0_0_S64x2432 concatenates_S64x128_S64x2432_S64x2560_d1 slices_S1x2560_o0_0_S1x2432 concatenates_S1x128_S1x2432_S1x2560_d1
        (round 64 2496 (k0_pay6 ids) slices_S64x2560_o0_0_S64x2496 concatenates_S64x64_S64x2496_S64x2560_d1 slices_S1x2560_o0_0_S1x2496 concatenates_S1x64_S1x2496_S1x2560_d1
        (round 32 2528 (k0_pay6 ids) slices_S64x2560_o0_0_S64x2528 concatenates_S64x32_S64x2528_S64x2560_d1 slices_S1x2560_o0_0_S1x2528 concatenates_S1x32_S1x2528_S1x2560_d1
        (round 16 2544 (k0_pay6 ids) slices_S64x2560_o0_0_S64x2544 concatenates_S64x16_S64x2544_S64x2560_d1 slices_S1x2560_o0_0_S1x2544 concatenates_S1x16_S1x2544_S1x2560_d1
        (round 8 2552 (k0_pay6 ids) slices_S64x2560_o0_0_S64x2552 concatenates_S64x8_S64x2552_S64x2560_d1 slices_S1x2560_o0_0_S1x2552 concatenates_S1x8_S1x2552_S1x2560_d1
        (round 4 2556 (k0_pay6 ids) slices_S64x2560_o0_0_S64x2556 concatenates_S64x4_S64x2556_S64x2560_d1 slices_S1x2560_o0_0_S1x2556 concatenates_S1x4_S1x2556_S1x2560_d1
        (round 2 2558 (k0_pay6 ids) slices_S64x2560_o0_0_S64x2558 concatenates_S64x2_S64x2558_S64x2560_d1 slices_S1x2560_o0_0_S1x2558 concatenates_S1x2_S1x2558_S1x2560_d1
        (round 1 2559 (k0_pay6 ids) slices_S64x2560_o0_0_S64x2559 concatenates_S64x1_S64x2559_S64x2560_d1 slices_S1x2560_o0_0_S1x2559 concatenates_S1x1_S1x2559_S1x2560_d1
          (hid x w1 b1 w2 b2)))))))))))) := by
  unfold scan scan8 shift8 k0_pay17 k0_pay14 k0_pay13 k0_pay11 k0_pay10 k0_pay9 k0_pay12 k0_pay15 k0_pay16 hid
  rfl

theorem round_apply (k r : ℕ) (ids : Vec F S1x1x2560 .i32) (hs) (hc) (hs') (hc') (hk : k + r = 2560) (hr : InRange ids) (h : FVec F S64x2560 .f32)
    (f : Fin 64) (j : Fin 2560) :
    round k r (k0_pay6 ids) hs hc hs' hc' h (ix2 f j)
      = if h' : k ≤ j.val then
          if (idAt ids j).toInt = (idAt ids ⟨j.val - k, by omega⟩).toInt then
            FloatOps.maximumf (h (ix2 f j)) (h (ix2 f (⟨j.val - k, by omega⟩ : Fin 2560)))
          else h (ix2 f j)
        else h (ix2 f j) := by
  have e : round k r (k0_pay6 ids) hs hc hs' hc' h (ix2 f j)
      = if IntOp.cmpi .eq (k0_pay6 ids (ix2 (0 : Fin 1) j)) (shifted k r 1 4294967295#32 (k0_pay6 ids) hs' hc' (ix2 (0 : Fin 1) j)) = 1#1 then
          FloatOps.maximumf (h (ix2 f j)) (shifted k r 64 (Scalar.ofBits .f32 0x00000000#32) h hs hc (ix2 f j)) else h (ix2 f j) := by
    unfold round
    pointwise
    rfl
  rw [e, row_apply, shifted_apply k r 1 _ _ _ _ hk, shifted_apply k r 64 _ _ _ _ hk]
  have hc2 : ∀ a b : BitVec 32, (IntOp.cmpi .eq a b = 1#1) ↔ a.toInt = b.toInt := fun a b => by
    rw [BitVec.toInt_inj]; unfold IntOp.cmpi; cases h : (a == b) <;> simp_all
  rw [if_congr (hc2 _ _) rfl rfl]
  split
  · rename_i h'
    rw [row_apply]
  · rename_i h'
    rw [if_neg]
    have := (hr j).1
    show ¬ _ = (-1 : ℤ)
    omega

/-! ## What the scan computes -/

/-- The values `h` are running maxima of `h0` over the at most `w` last places of the same id. -/
def Covers (id : Fin 2560 → ℤ) (h0 : Fin 2560 → EReal) (w : ℕ) (h : Fin 2560 → EReal) : Prop :=
  ∀ j c, h j ≤ c ↔ ∀ j' : Fin 2560, j'.val ≤ j.val → j.val < j'.val + w → id j' = id j → h0 j' ≤ c

/-- Over one place the values are their own running maxima. -/
theorem covers_one (id : Fin 2560 → ℤ) (h0 : Fin 2560 → EReal) : Covers id h0 1 h0 := by
  intro j c
  constructor
  · intro h j' h1 h2 _
    rwa [show j' = j from Fin.ext (by omega)]
  · intro h
    exact h j le_rfl (by omega) rfl

/-- A round doubles the number of places, when the ids are sorted. -/
theorem covers_double {id : Fin 2560 → ℤ} {h0 h h' : Fin 2560 → EReal} {k : ℕ} (hs : ∀ i j : Fin 2560, i.val ≤ j.val → id i ≤ id j)
    (hc : Covers id h0 k h)
    (e : ∀ j : Fin 2560, h' j = if hk : k ≤ j.val then if id j = id ⟨j.val - k, by omega⟩ then max (h j) (h ⟨j.val - k, by omega⟩) else h j else h j) :
    Covers id h0 (k + k) h' := by
  intro j c
  rw [e]
  split
  · rename_i hk
    split
    · rename_i hid
      rw [max_le_iff, hc, hc]
      constructor
      · rintro ⟨ha, hb⟩ j' h1 h2 h3
        by_cases hlt : j.val < j'.val + k
        · exact ha j' h1 hlt h3
        · exact hb j' (by dsimp only; omega) (by dsimp only; omega) (h3.trans hid)
      · intro ha
        exact ⟨fun j' h1 h2 h3 => ha j' h1 (by omega) h3,
          fun j' h1 h2 h3 => ha j' (by dsimp only at h1; omega) (by dsimp only at h2; omega) (h3.trans hid.symm)⟩
    · rename_i hid
      rw [hc]
      constructor
      · intro ha j' h1 h2 h3
        by_cases hlt : j.val < j'.val + k
        · exact ha j' h1 hlt h3
        · exact absurd (le_antisymm (h3 ▸ hs j' ⟨j.val - k, by omega⟩ (by dsimp only; omega)) (hs ⟨j.val - k, by omega⟩ j (by dsimp only; omega))) hid
      · exact fun ha j' h1 h2 h3 => ha j' h1 (by omega) h3
  · rename_i hk
    rw [hc]
    constructor
    · exact fun ha j' h1 h2 h3 => ha j' h1 (by omega) h3
    · exact fun ha j' h1 h2 h3 => ha j' h1 (by omega) h3

/-- The ids of a block are sorted. -/
def Sorted (ids : Vec F S1x1x2560 .i32) : Prop := ∀ i j : Fin 2560, i.val ≤ j.val → (idAt ids i).toInt ≤ (idAt ids j).toInt

/-- A round of the scan doubles the number of places its maxima run over. -/
theorem covers_round (k r : ℕ) (ids : Vec Ideal S1x1x2560 .i32) (hs) (hc) (hs') (hc') (hk : k + r = 2560) (hr : InRange ids) (hsort : Sorted ids)
    (h0 : Fin 2560 → EReal) (h : FVec Ideal S64x2560 .f32) (f : Fin 64)
    (hcov : Covers (fun j => (idAt ids j).toInt) h0 k fun j => h (ix2 f j)) :
    Covers (fun j => (idAt ids j).toInt) h0 (k + k) fun j => round k r (k0_pay6 ids) hs hc hs' hc' h (ix2 f j) :=
  covers_double hsort hcov fun j => round_apply k r ids hs hc hs' hc' hk hr h f j

/-- The finished scan is the running maximum of the hidden layer over the places of the same id. -/
theorem scan_le_iff (ids : Vec Ideal S1x1x2560 .i32) (x : Vec Ideal S2560x128 .f32) (w1 : Vec Ideal S128x64 .f32) (b1 : Vec Ideal S64x1 .f32)
    (w2 : Vec Ideal S64x64 .f32) (b2 : Vec Ideal S64x1 .f32) (hr : InRange ids) (hsort : Sorted ids) (f : Fin 64) (j : Fin 2560) (c : EReal) :
    (scan ids x w1 b1 w2 b2 (ix2 f j) : EReal) ≤ c
      ↔ ∀ j' : Fin 2560, j'.val ≤ j.val → idAt ids j' = idAt ids j → (hid x w1 b1 w2 b2 (ix2 f j') : EReal) ≤ c := by
  have h := covers_one (fun j => (idAt ids j).toInt) (fun j => hid x w1 b1 w2 b2 (ix2 f j))
  replace h := covers_round 1 2559 ids slices_S64x2560_o0_0_S64x2559 concatenates_S64x1_S64x2559_S64x2560_d1 slices_S1x2560_o0_0_S1x2559 concatenates_S1x1_S1x2559_S1x2560_d1 rfl hr hsort _ _ f h
  replace h := covers_round 2 2558 ids slices_S64x2560_o0_0_S64x2558 concatenates_S64x2_S64x2558_S64x2560_d1 slices_S1x2560_o0_0_S1x2558 concatenates_S1x2_S1x2558_S1x2560_d1 rfl hr hsort _ _ f h
  replace h := covers_round 4 2556 ids slices_S64x2560_o0_0_S64x2556 concatenates_S64x4_S64x2556_S64x2560_d1 slices_S1x2560_o0_0_S1x2556 concatenates_S1x4_S1x2556_S1x2560_d1 rfl hr hsort _ _ f h
  replace h := covers_round 8 2552 ids slices_S64x2560_o0_0_S64x2552 concatenates_S64x8_S64x2552_S64x2560_d1 slices_S1x2560_o0_0_S1x2552 concatenates_S1x8_S1x2552_S1x2560_d1 rfl hr hsort _ _ f h
  replace h := covers_round 16 2544 ids slices_S64x2560_o0_0_S64x2544 concatenates_S64x16_S64x2544_S64x2560_d1 slices_S1x2560_o0_0_S1x2544 concatenates_S1x16_S1x2544_S1x2560_d1 rfl hr hsort _ _ f h
  replace h := covers_round 32 2528 ids slices_S64x2560_o0_0_S64x2528 concatenates_S64x32_S64x2528_S64x2560_d1 slices_S1x2560_o0_0_S1x2528 concatenates_S1x32_S1x2528_S1x2560_d1 rfl hr hsort _ _ f h
  replace h := covers_round 64 2496 ids slices_S64x2560_o0_0_S64x2496 concatenates_S64x64_S64x2496_S64x2560_d1 slices_S1x2560_o0_0_S1x2496 concatenates_S1x64_S1x2496_S1x2560_d1 rfl hr hsort _ _ f h
  replace h := covers_round 128 2432 ids slices_S64x2560_o0_0_S64x2432 concatenates_S64x128_S64x2432_S64x2560_d1 slices_S1x2560_o0_0_S1x2432 concatenates_S1x128_S1x2432_S1x2560_d1 rfl hr hsort _ _ f h
  replace h := covers_round 256 2304 ids slices_S64x2560_o0_0_S64x2304 concatenates_S64x256_S64x2304_S64x2560_d1 slices_S1x2560_o0_0_S1x2304 concatenates_S1x256_S1x2304_S1x2560_d1 rfl hr hsort _ _ f h
  replace h := covers_round 512 2048 ids slices_S64x2560_o0_0_S64x2048 concatenates_S64x512_S64x2048_S64x2560_d1 slices_S1x2560_o0_0_S1x2048 concatenates_S1x512_S1x2048_S1x2560_d1 rfl hr hsort _ _ f h
  replace h := covers_round 1024 1536 ids slices_S64x2560_o0_0_S64x1536 concatenates_S64x1024_S64x1536_S64x2560_d1 slices_S1x2560_o0_0_S1x1536 concatenates_S1x1024_S1x1536_S1x2560_d1 rfl hr hsort _ _ f h
  replace h := covers_round 2048 512 ids slices_S64x2560_o0_0_S64x512 concatenates_S64x2048_S64x512_S64x2560_d1 slices_S1x2560_o0_0_S1x512 concatenates_S1x2048_S1x512_S1x2560_d1 rfl hr hsort _ _ f h
  rw [scan_rounds]
  refine (h j c).trans ⟨fun h j' h1 h2 => h j' h1 (by omega) (congrArg BitVec.toInt h2), fun h j' h1 _ h2 => h j' h1 (BitVec.toInt_inj.mp h2)⟩

/-- The scan's values are not negative when the hidden layer's are not. -/
theorem hid_le_scan (ids : Vec Ideal S1x1x2560 .i32) (x : Vec Ideal S2560x128 .f32) (w1 : Vec Ideal S128x64 .f32) (b1 : Vec Ideal S64x1 .f32)
    (w2 : Vec Ideal S64x64 .f32) (b2 : Vec Ideal S64x1 .f32) (hr : InRange ids) (hsort : Sorted ids) (f : Fin 64) (j : Fin 2560) :
    (hid x w1 b1 w2 b2 (ix2 f j) : EReal) ≤ scan ids x w1 b1 w2 b2 (ix2 f j) :=
  (scan_le_iff ids x w1 b1 w2 b2 hr hsort f j _).mp le_rfl j le_rfl rfl

end Cert.KernelIdeal.Hand

end
-- ==== Proof.Raise.lean ====
module

public import proofs.«01_k».proof.Proof.Scan

@[expose] public section

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a step does to one element of the accumulator -/

/-- A condition widened to a word and converted is one or zero. -/
theorem flag_value (p : Prop) [Decidable p] :
    (FloatOps.sitofp .f32 (BitVec.setWidth 32 (BitVec.ofBool (decide p))) : Ideal .f32) = ((if p then 1 else 0 : ℝ) : EReal) := by
  show ((((BitVec.setWidth 32 (BitVec.ofBool (decide p))).toInt : ℤ) : ℝ) : EReal) = _
  by_cases h : p <;> simp [h]

/-- A sum with at most one term, not negative, is bounded by what bounds that term and zero. -/
theorem sum_single_le_iff {ι : Type} [Fintype ι] (p : ι → Prop) [DecidablePred p] (v : ι → EReal) (hp : ∀ i j, p i → p j → i = j) {c : EReal} (hc : 0 ≤ c) :
    (∑ i, if p i then v i else 0) ≤ c ↔ ∀ i, p i → v i ≤ c := by
  classical
  by_cases h : ∃ i, p i
  · obtain ⟨i, hi⟩ := h
    rw [Finset.sum_eq_single i (fun j _ hj => if_neg fun h => hj (hp j i h hi)) (fun h => absurd (Finset.mem_univ i) h), if_pos hi]
    exact ⟨fun h j hj => hp j i hj hi ▸ h, fun h => h i hi⟩
  · rw [Finset.sum_eq_zero fun j _ => if_neg fun hj => h ⟨j, hj⟩]
    exact ⟨fun _ i hi => absurd ⟨i, hi⟩ h, fun _ => hc⟩

/-- Place `j` is the last of its id in the block. -/
def Last (ids : Vec F S1x1x2560 .i32) (j : Fin 2560) : Prop := ∀ j' : Fin 2560, idAt ids j' = idAt ids j → j'.val ≤ j.val

/-- Every place's id has a last place. -/
theorem exists_last (ids : Vec F S1x1x2560 .i32) (j : Fin 2560) : ∃ k : Fin 2560, idAt ids k = idAt ids j ∧ j.val ≤ k.val ∧ Last ids k := by
  classical
  obtain ⟨k, hk, hmax⟩ := Finset.exists_max_image (Finset.univ.filter fun k => idAt ids k = idAt ids j) (fun k => k.val)
    ⟨j, by simp⟩
  have hk' := (Finset.mem_filter.mp hk).2
  exact ⟨k, hk', hmax j (by simp), fun j' h => hmax j' (by simp [h, hk'])⟩

/-- In a sorted block a place is its id's last when the next place's id differs. -/
theorem last_iff (ids : Vec F S1x1x2560 .i32) (hsort : Sorted ids) (j : Fin 2560) (h : j.val + 1 < 2560) :
    Last ids j ↔ idAt ids j ≠ idAt ids ⟨j.val + 1, h⟩ := by
  constructor
  · intro hl e
    have := hl ⟨j.val + 1, h⟩ e.symm
    simp at this
  · intro hne j' e
    by_contra hlt
    have h1 := hsort j ⟨j.val + 1, h⟩ (by simp)
    have h2 := hsort ⟨j.val + 1, h⟩ j' (by show j.val + 1 ≤ j'.val; omega)
    rw [e] at h2
    exact hne (BitVec.toInt_inj.mp (le_antisymm h1 h2))

/-- The last place of the block is its id's last. -/
theorem last_end (ids : Vec F S1x1x2560 .i32) (j : Fin 2560) (h : j.val = 2559) : Last ids j := fun j' _ => by omega

theorem select_flag {α : Type} (p : Prop) [Decidable p] (a b : α) : Scalar.select (BitVec.ofBool (decide p)) a b = if p then a else b := by
  unfold Scalar.select
  by_cases h : p <;> simp [h]

theorem cmpi_eq_iff_toInt (a b : BitVec 32) : IntOp.cmpi .eq a b = BitVec.ofBool (decide (a.toInt = b.toInt)) := by
  rw [WordCmp.cmpi_eq_eq]; congr 1; exact decide_eq_decide.mpr BitVec.toInt_inj.symm

/-- What a trip of the loop leaves in its row. -/
theorem trip_apply (row : IVec S1x2560 32) (a b : BitVec 32) (sc : FVec Ideal S64x2560 .f32) (k : Fin (k0_t1_loop a b).trips) (cur : Vec Ideal S1x64 .f32) (f : Fin 64) :
    (k0_pay1 row a b sc k cur (ix2 (0 : Fin 1) f) : EReal) = max (cur (ix2 (0 : Fin 1) f) : EReal) (Finset.univ.fold max (Ideal.ofBits FTy.f32 4286578688#32) fun j : Fin 2560 =>
        Scalar.select (IntOp.cmpi .eq (row (ix2 (0 : Fin 1) j)) (Scf.iv (Scalar.addi a 256#32) 1#32 k)) (sc (ix2 f j) : EReal) 0) := by
  pointwise [k0_pay1]

section Rows

variable (ids : Vec Ideal S1x1x2560 .i32) (x : Vec Ideal S2560x128 .f32) (w1 : Vec Ideal S128x64 .f32) (b1 : Vec Ideal S64x1 .f32)
  (w2 : Vec Ideal S64x64 .f32) (b2 : Vec Ideal S64x1 .f32) (hr : InRange ids) (hsort : Sorted ids)
include hr hsort

/-- The word that the one-hot matrix compares with its row number. -/
theorem rel_toInt (j : Fin 2560) (r : Fin 256) :
    (BitVec.ofNat 32 r.val).toInt = (IntOp.subi (idAt ids j) (lo ids)).toInt ↔ (idAt ids j).toInt = (lo ids).toInt + r.val := by
  have h1 := lo_le ids j
  have h2 := lo_nonneg hr
  have h3 := hr j
  have h4 : (BitVec.ofNat 32 r.val).toInt = (r.val : ℤ) := WordCmp.toInt_ofNat_of_lt (by have := r.isLt; simp; omega)
  have h5 : (IntOp.subi (idAt ids j) (lo ids)).toInt = (idAt ids j).toInt - (lo ids).toInt := by
    show (idAt ids j - lo ids).toInt = _
    rw [BitVec.toInt_sub]; exact Int.bmod_eq_of_le (by omega) (by omega)
  rw [h4, h5]
  omega

/-- The rows that the matrix product raises: row `r` of the window takes the maximum of the hidden layer over the places whose id is `r` past the smallest. -/
theorem part_le_iff (r : Fin 256) (f : Fin 64) (cur : Vec Ideal S256x64 .f32) (hcur : (0 : EReal) ≤ cur (ix2 r f)) (c : EReal) :
    (k0_pay18 (k0_pay6 ids) (lo ids) (scan8 ids x w1 b1 w2 b2) (shift8 ids x w1 b1 w2 b2) k0_pay15 (k0_pay16 (k0_pay6 ids)) cur (ix2 r f) : EReal) ≤ c
      ↔ (cur (ix2 r f) : EReal) ≤ c ∧ ∀ j, (idAt ids j).toInt = (lo ids).toInt + r.val → (hid x w1 b1 w2 b2 (ix2 f j) : EReal) ≤ c := by
  classical
  have e : (k0_pay18 (k0_pay6 ids) (lo ids) (scan8 ids x w1 b1 w2 b2) (shift8 ids x w1 b1 w2 b2) k0_pay15 (k0_pay16 (k0_pay6 ids)) cur (ix2 r f) : EReal)
      = max (cur (ix2 r f) : EReal) (∑ j : Fin 2560, if Last ids j ∧ (idAt ids j).toInt = (lo ids).toInt + r.val then
          (scan ids x w1 b1 w2 b2 (ix2 f j) : EReal) else 0) := by
    have term : ∀ (p : Prop) [Decidable p] (j : Fin 2560), (p ↔ Last ids j) →
        (if p then (FloatOps.sitofp .f32 (BitVec.setWidth 32 (IntOp.cmpi .eq (BitVec.ofNat 32 r.val) (IntOp.subi (idAt ids j) (lo ids)))) : Ideal .f32)
            * (scan ids x w1 b1 w2 b2 (ix2 f j) : EReal) else (0 : EReal))
          = if Last ids j ∧ (idAt ids j).toInt = (lo ids).toInt + r.val then (scan ids x w1 b1 w2 b2 (ix2 f j) : EReal) else 0 := by
      intro p _ j hp
      rw [cmpi_eq_iff_toInt, flag_value]
      have h := rel_toInt ids hr hsort j r
      by_cases h1 : Last ids j
      · rw [if_pos (hp.mpr h1)]
        by_cases h2 : (idAt ids j).toInt = (lo ids).toInt + r.val
        · rw [if_pos (h.mpr h2), if_pos ⟨h1, h2⟩]
          show ((1 : ℝ) : EReal) * _ = _
          rw [EReal.coe_one, one_mul]
        · rw [if_neg (fun h' => h2 (h.mp h')), if_neg (fun h' => h2 h'.2)]
          show ((0 : ℝ) : EReal) * _ = _
          rw [EReal.coe_zero, zero_mul]
      · rw [if_neg (fun h' => h1 (hp.mp h')), if_neg (fun h' => h1 h'.1)]
    have e0 : k0_pay17 (k0_pay6 ids) (scan8 ids x w1 b1 w2 b2) (shift8 ids x w1 b1 w2 b2) k0_pay15 (k0_pay16 (k0_pay6 ids)) = scan ids x w1 b1 w2 b2 := rfl
    unfold k0_pay18
    rw [e0]
    generalize hsc : scan ids x w1 b1 w2 b2 = sc
    rw [hsc] at term
    rw [Fin.sum_univ_castSucc]
    pointwise
    simp only [row_apply]
    congr 1
    congr 1
    · refine Finset.sum_congr rfl fun j _ => ?_
      rw [WordCmp.cmpi_ne_eq, select_flag]
      refine term _ j.castSucc ?_
      rw [last_iff ids hsort j.castSucc (by have := j.isLt; simp; omega)]
      have : (⟨1 + j.val, by have := j.isLt; omega⟩ : Fin 2560) = ⟨j.castSucc.val + 1, by have := j.isLt; simp; omega⟩ := Fin.ext (Nat.add_comm _ _)
      rw [← this]
      rfl
    · rw [Fin.sum_univ_one, WordCmp.cmpi_ne_eq, select_flag]
      refine term _ (Fin.last 2559) ?_
      have h := (hr (2559 : Fin 2560)).1
      exact ⟨fun _ => last_end ids _ rfl, fun _ e => by rw [e] at h; exact absurd h (by decide)⟩
  rw [e, max_le_iff]
  refine and_congr_right fun hc => ?_
  rw [sum_single_le_iff _ _ _ (hcur.trans hc)]
  · constructor
    · intro h j hj
      obtain ⟨k, hk, hjk, hl⟩ := exists_last ids j
      exact (scan_le_iff ids x w1 b1 w2 b2 hr hsort f k c).mp (h k ⟨hl, by rw [hk, hj]⟩) j hjk hk.symm
    · intro h j hj
      exact (scan_le_iff ids x w1 b1 w2 b2 hr hsort f j c).mpr fun j' _ e => h j' (by rw [e, hj.2])
  · intro i j hi hj
    have hij : idAt ids i = idAt ids j := BitVec.toInt_inj.mp (by rw [hi.2, hj.2])
    exact Fin.ext (le_antisymm (hj.1 i hij) (hi.1 j hij.symm))

/-- A trip of the loop raises its row by the maximum of the hidden layer over the places of that id. -/
theorem trip_le_iff (k : Fin (k0_t1_loop (lo ids) (hi ids)).trips) (f : Fin 64) (cur : Vec Ideal S1x64 .f32) (hcur : (0 : EReal) ≤ cur (ix2 (0 : Fin 1) f)) (c : EReal) :
    (k0_pay1 (k0_pay6 ids) (lo ids) (hi ids) (scan ids x w1 b1 w2 b2) k cur (ix2 (0 : Fin 1) f) : EReal) ≤ c
      ↔ (cur (ix2 (0 : Fin 1) f) : EReal) ≤ c ∧ ∀ j, (idAt ids j).toInt = (lo ids).toInt + 256 + k.val → (hid x w1 b1 w2 b2 (ix2 f j) : EReal) ≤ c := by
  have hrow := trip_row (lo_nonneg hr) (hi_lt hr) (lo_le_hi ids) k
  have e : (k0_pay1 (k0_pay6 ids) (lo ids) (hi ids) (scan ids x w1 b1 w2 b2) k cur (ix2 (0 : Fin 1) f) : EReal)
      = max (cur (ix2 (0 : Fin 1) f) : EReal) (Finset.univ.fold max (Ideal.ofBits FTy.f32 4286578688#32) fun j : Fin 2560 =>
          if (idAt ids j).toInt = (lo ids).toInt + 256 + k.val then (scan ids x w1 b1 w2 b2 (ix2 f j) : EReal) else 0) := by
    generalize scan ids x w1 b1 w2 b2 = sc
    refine (trip_apply _ _ _ _ _ _ _).trans ?_
    simp only [row_apply, cmpi_eq_iff_toInt, select_flag, hrow]
  have hb : Ideal.ofBits FTy.f32 4286578688#32 = (⊥ : EReal) := by simp [Ideal.ofBits, Ideal.ieee]
  rw [e, hb, max_le_iff]
  refine and_congr_right fun hc => ?_
  rw [Finset.fold_max_le]
  constructor
  · rintro ⟨_, h⟩ j hj
    have := h j (Finset.mem_univ j)
    rw [if_pos hj] at this
    exact (hid_le_scan ids x w1 b1 w2 b2 hr hsort f j).trans this
  · refine fun h => ⟨bot_le, fun j _ => ?_⟩
    split
    · rename_i hj
      exact (scan_le_iff ids x w1 b1 w2 b2 hr hsort f j c).mpr fun j' _ e => h j' (by rw [e, hj])
    · exact hcur.trans hc

omit hr hsort in
/-- Outside its rows a window leaves the accumulator. -/
theorem put_out (acc : Vec Ideal S4352x64 .f32) (off size : Fin 2 → ℕ) (w : ((a : Fin 2) → Fin (size a)) → EReal) (s : Fin 4352) (f : Fin 64)
    (h : ¬ (off 0 ≤ s.val ∧ s.val < off 0 + size 0)) : VecWindow.put (s := S4352x64) acc off size w (ix2 s f) = (acc (ix2 s f) : EReal) :=
  dif_neg fun hall => h (hall 0)

omit hr hsort in
/-- Inside its rows a window of whole rows holds its payload. -/
theorem put_in (acc : Vec Ideal S4352x64 .f32) (off size : Fin 2 → ℕ) (w : ((a : Fin 2) → Fin (size a)) → EReal) (s : Fin 4352) (f : Fin 64)
    (y : (a : Fin 2) → Fin (size a)) (h1 : off 1 = 0) (hy0 : off 0 + (y 0).val = s.val) (hy1 : (y 1).val = f.val) :
    VecWindow.put (s := S4352x64) acc off size w (ix2 s f) = w y := by
  have hall : ∀ a : Fin 2, off a ≤ ((ix2 s f : S4352x64.Idx) a).val ∧ ((ix2 s f : S4352x64.Idx) a).val < off a + size a := by
    intro a
    have h0 := (y 0).isLt
    have h1' := (y 1).isLt
    fin_cases a
    · show off 0 ≤ s.val ∧ s.val < off 0 + size 0; omega
    · show off 1 ≤ f.val ∧ f.val < off 1 + size 1; omega
  refine (dif_pos hall).trans (congrArg w (funext fun a => Fin.ext ?_))
  fin_cases a
  · show s.val - off 0 = (y 0).val; omega
  · show f.val - off 1 = (y 1).val; omega

omit hr hsort in
/-- A window of whole rows reads the accumulator at its offset. -/
theorem window_in (acc : Vec Ideal S4352x64 .f32) (off size : Fin 2 → ℕ) (inb : ∀ a, off a + size a ≤ S4352x64.size a) (s : Fin 4352) (f : Fin 64)
    (y : (a : Fin 2) → Fin (size a)) (h1 : off 1 = 0) (hy0 : off 0 + (y 0).val = s.val) (hy1 : (y 1).val = f.val) :
    VecWindow.window (s := S4352x64) acc off size inb y = (acc (ix2 s f) : EReal) := by
  refine congrArg acc (funext fun a => Fin.ext ?_)
  fin_cases a
  · show off 0 + 1 * (y 0).val = s.val; omega
  · show off 1 + 1 * (y 1).val = f.val; omega

omit hr hsort in
/-- The window of 256 rows, read back. -/
theorem put_off1 (v : BitVec 32) (acc : Vec Ideal S4352x64 .f32) (w : Vec Ideal S256x64 .f32) (s : Fin 4352) (r : Fin 256) (f : Fin 64) (h : v.toNat + r.val = s.val) :
    VecWindow.put (s := S4352x64) acc (k0_off1 v) S256x64.size w (ix2 s f) = w (ix2 r f) :=
  put_in acc (k0_off1 v) S256x64.size w s f (ix2 r f) rfl h rfl

omit hr hsort in
theorem put_off1_out (v : BitVec 32) (acc : Vec Ideal S4352x64 .f32) (w : Vec Ideal S256x64 .f32) (s : Fin 4352) (f : Fin 64)
    (h : ¬ (v.toNat ≤ s.val ∧ s.val < v.toNat + 256)) :
    VecWindow.put (s := S4352x64) acc (k0_off1 v) S256x64.size w (ix2 s f) = (acc (ix2 s f) : EReal) :=
  put_out acc (k0_off1 v) S256x64.size w s f h

omit hr hsort in
theorem window_off1 (v : BitVec 32) (acc : Vec Ideal S4352x64 .f32) (inb) (s : Fin 4352) (r : Fin 256) (f : Fin 64) (h : v.toNat + r.val = s.val) :
    VecWindow.window (s := S4352x64) acc (k0_off1 v) S256x64.size inb (ix2 r f) = (acc (ix2 s f) : EReal) :=
  window_in acc (k0_off1 v) S256x64.size inb s f (ix2 r f) rfl h rfl

omit hr hsort in
/-- The window of one row, read back. -/
theorem put_off2 (a b : BitVec 32) (k : Fin (k0_t1_loop a b).trips) (acc : Vec Ideal S4352x64 .f32) (w : Vec Ideal S1x64 .f32) (s : Fin 4352) (f : Fin 64)
    (h : (Scf.iv (Scalar.addi a 256#32) 1#32 k).toNat = s.val) :
    VecWindow.put (s := S4352x64) acc (k0_off2 a b k) S1x64.size w (ix2 s f) = w (ix2 (0 : Fin 1) f) :=
  put_in acc (k0_off2 a b k) S1x64.size w s f (ix2 (0 : Fin 1) f) rfl h rfl

omit hr hsort in
theorem put_off2_out (a b : BitVec 32) (k : Fin (k0_t1_loop a b).trips) (acc : Vec Ideal S4352x64 .f32) (w : Vec Ideal S1x64 .f32) (s : Fin 4352) (f : Fin 64)
    (h : (Scf.iv (Scalar.addi a 256#32) 1#32 k).toNat ≠ s.val) :
    VecWindow.put (s := S4352x64) acc (k0_off2 a b k) S1x64.size w (ix2 s f) = (acc (ix2 s f) : EReal) :=
  put_out acc (k0_off2 a b k) S1x64.size w s f fun g => h (by
    have g1 : (Scf.iv (Scalar.addi a 256#32) 1#32 k).toNat ≤ s.val := g.1
    have g2 : s.val < (Scf.iv (Scalar.addi a 256#32) 1#32 k).toNat + 1 := g.2
    omega)

omit hr hsort in
theorem window_off2 (a b : BitVec 32) (k : Fin (k0_t1_loop a b).trips) (acc : Vec Ideal S4352x64 .f32) (inb) (s : Fin 4352) (f : Fin 64)
    (h : (Scf.iv (Scalar.addi a 256#32) 1#32 k).toNat = s.val) :
    VecWindow.window (s := S4352x64) acc (k0_off2 a b k) S1x64.size inb (ix2 (0 : Fin 1) f) = (acc (ix2 s f) : EReal) :=
  window_in acc (k0_off2 a b k) S1x64.size inb s f (ix2 (0 : Fin 1) f) rfl h rfl

/-- The element after the 256 rows are raised. -/
theorem bulk_le_iff (h1 : k0_chk1 (lo ids)) (acc : Vec Ideal S4352x64 .f32) (s : Fin 4352) (f : Fin 64) (ha : (0 : EReal) ≤ acc (ix2 s f)) (c : EReal) :
    (bulk ids x w1 b1 w2 b2 h1 acc (ix2 s f) : EReal) ≤ c
      ↔ (acc (ix2 s f) : EReal) ≤ c ∧ ∀ j, (idAt ids j).toInt = s.val → (idAt ids j).toInt < (lo ids).toInt + 256 → (hid x w1 b1 w2 b2 (ix2 f j) : EReal) ≤ c := by
  have hn := toNat_of_toInt (lo_nonneg hr)
  have h0 := lo_nonneg hr
  unfold bulk
  by_cases h : (lo ids).toNat ≤ s.val ∧ s.val < (lo ids).toNat + 256
  · have hlt : s.val - (lo ids).toNat < 256 := by omega
    have hs : (lo ids).toNat + (⟨s.val - (lo ids).toNat, hlt⟩ : Fin 256).val = s.val := by simp only; omega
    rw [put_off1 (lo ids) acc _ s ⟨s.val - (lo ids).toNat, hlt⟩ f hs]
    have e := window_off1 (lo ids) acc (k0_off1_inb (lo ids) h1) s ⟨s.val - (lo ids).toNat, hlt⟩ f hs
    have p := part_le_iff ids x w1 b1 w2 b2 hr hsort ⟨s.val - (lo ids).toNat, hlt⟩ f
      (VecWindow.window acc (k0_off1 (lo ids)) S256x64.size (k0_off1_inb (lo ids) h1)) (le_of_le_of_eq ha e.symm) c
    refine p.trans (and_congr (iff_of_eq (congrArg (· ≤ c) e)) (forall_congr' fun j => ?_))
    simp only
    constructor
    · intro g g1 g2; exact g (by omega)
    · intro g g1; exact g (by omega) (by omega)
  · rw [put_off1_out (lo ids) acc _ s f h]
    refine ⟨fun g => ⟨g, fun j g1 g2 => absurd ?_ h⟩, fun g => g.1⟩
    have := lo_le ids j
    omega

/-- The element before trip `k` of the loop. -/
theorem rows_le_iff (h2 : k0_chk2 (lo ids) (hi ids)) (acc : Vec Ideal S4352x64 .f32) (s : Fin 4352) (f : Fin 64) (ha : (0 : EReal) ≤ acc (ix2 s f)) (k : ℕ)
    (hk : k ≤ (k0_t1_loop (lo ids) (hi ids)).trips) (c : EReal) :
    (rows (k0_pay6 ids) (lo ids) (hi ids) h2 (scan ids x w1 b1 w2 b2) acc k (ix2 s f) : EReal) ≤ c
      ↔ (acc (ix2 s f) : EReal) ≤ c ∧ ∀ j, (idAt ids j).toInt = s.val → (lo ids).toInt + 256 ≤ (idAt ids j).toInt → (idAt ids j).toInt < (lo ids).toInt + 256 + k →
          (hid x w1 b1 w2 b2 (ix2 f j) : EReal) ≤ c := by
  induction k generalizing c with
  | zero =>
    show (acc (ix2 s f) : EReal) ≤ c ↔ _
    exact ⟨fun g => ⟨g, fun j _ g1 g2 => by omega⟩, fun g => g.1⟩
  | succ k ih =>
    have hlt : k < (k0_t1_loop (lo ids) (hi ids)).trips := hk
    have ih := ih (by omega)
    have hrow := trip_row (lo_nonneg hr) (hi_lt hr) (lo_le_hi ids) ⟨k, hlt⟩
    have h0 := lo_nonneg hr
    simp only at hrow
    have hn := toNat_of_toInt (a := Scf.iv (Scalar.addi (lo ids) 256#32) 1#32 k) (by omega)
    have hpos : (0 : EReal) ≤ rows (k0_pay6 ids) (lo ids) (hi ids) h2 (scan ids x w1 b1 w2 b2) acc k (ix2 s f) :=
      ha.trans ((ih _).mp le_rfl).1
    rw [rows, dif_pos hlt]
    generalize rows (k0_pay6 ids) (lo ids) (hi ids) h2 (scan ids x w1 b1 w2 b2) acc k = z at ih hpos ⊢
    by_cases h : (Scf.iv (Scalar.addi (lo ids) 256#32) 1#32 k).toNat = s.val
    · rw [put_off2 (lo ids) (hi ids) ⟨k, hlt⟩ z _ s f h]
      have e := window_off2 (lo ids) (hi ids) ⟨k, hlt⟩ z (k0_off2_inb (lo ids) (hi ids) h2 ⟨k, hlt⟩) s f h
      have p := trip_le_iff ids x w1 b1 w2 b2 hr hsort ⟨k, hlt⟩ f
        (VecWindow.window z (k0_off2 (lo ids) (hi ids) ⟨k, hlt⟩) S1x64.size (k0_off2_inb (lo ids) (hi ids) h2 ⟨k, hlt⟩)) (le_of_le_of_eq hpos e.symm) c
      refine p.trans ((and_congr ((iff_of_eq (congrArg (· ≤ c) e)).trans (ih c)) Iff.rfl).trans ?_)
      constructor
      · rintro ⟨⟨g1, g2⟩, g3⟩
        refine ⟨g1, fun j a1 a2 a3 => ?_⟩
        exact g3 j (by simp only; omega)
      · rintro ⟨g1, g2⟩
        refine ⟨⟨g1, fun j a1 a2 a3 => g2 j a1 a2 (by push_cast; omega)⟩, fun j a1 => ?_⟩
        simp only at a1
        exact g2 j (by omega) (by omega) (by push_cast; omega)
    · rw [put_off2_out (lo ids) (hi ids) ⟨k, hlt⟩ z _ s f h]
      rw [ih c]
      refine and_congr_right fun _ => forall_congr' fun j => ?_
      constructor
      · intro g a1 a2 a3; exact g a1 a2 (by push_cast at a3; omega)
      · intro g a1 a2 a3; exact g a1 a2 (by push_cast; omega)

/-- What a step does to an element of the accumulator: it takes the maximum with the hidden layer at the points of that row's id. -/
theorem step_le_iff (h : RowsOk ids) (acc : Vec Ideal S4352x64 .f32) (s : Fin 4352) (f : Fin 64) (ha : (0 : EReal) ≤ acc (ix2 s f)) (c : EReal) :
    (step ids x w1 b1 w2 b2 h acc (ix2 s f) : EReal) ≤ c
      ↔ (acc (ix2 s f) : EReal) ≤ c ∧ ∀ j, (idAt ids j).toInt = s.val → (hid x w1 b1 w2 b2 (ix2 f j) : EReal) ≤ c := by
  unfold step
  have hb := bulk_le_iff ids x w1 b1 w2 b2 hr hsort h.1 acc s f ha
  rw [rows_le_iff ids x w1 b1 w2 b2 hr hsort h.2 _ s f (ha.trans ((hb _).mp le_rfl).1) _ le_rfl c, hb c, trip_count (lo_nonneg hr) (hi_lt hr) (lo_le_hi ids)]
  constructor
  · rintro ⟨⟨g1, g2⟩, g3⟩
    refine ⟨g1, fun j a => ?_⟩
    have := le_hi ids j
    by_cases hj : (idAt ids j).toInt < (lo ids).toInt + 256
    · exact g2 j a hj
    · exact g3 j a (by omega) (by omega)
  · rintro ⟨g1, g2⟩
    exact ⟨⟨g1, fun j a _ => g2 j a⟩, fun j a _ _ => g2 j a⟩

end Rows

end Cert.KernelIdeal.Hand

end
-- ==== Proof.Accum.lean ====
module

public import proofs.«01_k».proof.Proof.Raise
public import proofs.«01_k».proof.Proof.Frames
public import Idealize.ShloMosaic.Lib.Pipeline.ValueKit.Geometry

@[expose] public section

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The accumulator after the first call -/

variable (m : (ℓ : Loc nD τ sig) → Buf (Elt Ideal) ℓ) (c : Dev nD)

/-- The second layer at point `i`, feature `f`. -/
def layer (i : Fin 320000) (f : Fin 64) : EReal :=
  max (∑ k : Fin 64, (A5 m c (ix2 k f) : EReal) * max (∑ d : Fin 128, (A3 m c (ix2 d k) : EReal) * (A0 m c (ix2 i d) : EReal) + (A4 m c (ix1 k) : EReal)) 0
    + (A6 m c (ix1 f) : EReal)) 0

/-- The hidden layer of a block is the points' second layer. -/
theorem hid_layer (t : Fin cfg0.N) (f : Fin 64) (j : Fin 2560) :
    (hid (xs m c t) (w1s m c t) (b1s m c t) (w2s m c t) (b2s m c t) (ix2 f j) : EReal) = layer m c (point t j) f := by
  have h1 : ∀ k, w2s m c t (ix2 k f) = A5 m c (ix2 k f) := fun k => w2s_apply m c t k f
  have h2 : ∀ d k, w1s m c t (ix2 d k) = A3 m c (ix2 d k) := fun d k => w1s_apply m c t d k
  have h3 : ∀ d, xs m c t (ix2 j d) = A0 m c (ix2 (point t j) d) := fun d => xs_apply m c t j d
  have h4 : ∀ k, b1s m c t (ix2 k (0 : Fin 1)) = A4 m c (ix1 k) := fun k => b1s_apply m c t k
  have h5 := b2s_apply m c t f
  unfold layer
  simp only [← h1, ← h2, ← h3, ← h4, ← h5]
  generalize xs m c t = x
  generalize w1s m c t = w1
  generalize b1s m c t = b1
  generalize w2s m c t = w2
  generalize b2s m c t = b2
  pointwise [hid, k0_pay4]

section Acc

variable (ok : IdsOk (A1 m c) (A2 m c))
include ok

theorem block_range (t : Fin cfg0.N) : InRange (ids m c t) := all_rows m c ok.range t

theorem block_sorted (t : Fin cfg0.N) : Sorted (ids m c t) := fun i j hij => by
  rw [ids_apply, ids_apply]
  exact ok.sorted _ _ (by show 2560 * t.val + i.val ≤ 2560 * t.val + j.val; omega)

/-- One step on one element, in terms of the points. -/
theorem next_le_iff (t : Fin cfg0.N) (acc : Vec Ideal S4352x64 .f32) (s : Fin 4352) (f : Fin 64) (ha : (0 : EReal) ≤ acc (ix2 s f)) (v : EReal) :
    (next (ids m c t) (xs m c t) (w1s m c t) (b1s m c t) (w2s m c t) (b2s m c t) acc (ix2 s f) : EReal) ≤ v
      ↔ (acc (ix2 s f) : EReal) ≤ v ∧ ∀ j, (A1 m c (ix1 (point t j))).toInt = s.val → layer m c (point t j) f ≤ v := by
  have hr := block_range m c ok t
  unfold next
  rw [dif_pos (rows_ok hr), step_le_iff _ _ _ _ _ _ hr (block_sorted m c ok t) _ acc s f ha v]
  simp only [ids_apply, hid_layer]

/-- The accumulator after step `n`: over what it started from, the maximum of the second layer over the points so far with that id. -/
theorem accAt_le_iff (n : ℕ) (hn : n < cfg0.N) (s : Fin 4352) (f : Fin 64) (v : EReal) :
    (accAt (fun c b => X1 m c b) c n hn (ix2 s f) : EReal) ≤ v
      ↔ 0 ≤ v ∧ ∀ i : Fin 320000, i.val < 2560 * (n + 1) → (A1 m c (ix1 i)).toInt = s.val → layer m c i f ≤ v := by
  have pt : ∀ (k : ℕ) (hk : k < cfg0.N) (i : Fin 320000), 2560 * k ≤ i.val → i.val < 2560 * (k + 1) → ∃ j, point ⟨k, hk⟩ j = i := by
    intro k hk i h1 h2
    exact ⟨⟨i.val - 2560 * k, by omega⟩, Fin.ext (by show 2560 * k + (i.val - 2560 * k) = i.val; omega)⟩
  have pt' : ∀ (t : Fin cfg0.N) (j : Fin 2560), (point t j).val = 2560 * t.val + j.val := fun _ _ => rfl
  induction n generalizing v with
  | zero =>
    have h0 : (k0_pay3 (F := Ideal) (ix2 s f) : EReal) = 0 := by pointwise [k0_pay3]
    have e := next_le_iff m c ok ⟨0, hn⟩ (k0_pay3 (F := Ideal)) s f (le_of_eq (Eq.symm h0)) v
    rw [h0] at e
    refine e.trans (and_congr_right fun _ => ?_)
    constructor
    · intro g i hi
      obtain ⟨j, rfl⟩ := pt 0 hn i (by omega) (by omega)
      exact g j
    · intro g j
      refine g _ ?_
      rw [pt']
      have := j.isLt
      simp only
      omega
  | succ n ih =>
    have ih := ih (Nat.lt_of_succ_lt hn)
    have hp := ((ih _).mp le_rfl).1
    have e := next_le_iff m c ok ⟨n + 1, hn⟩ (accAt (fun c b => X1 m c b) c n (Nat.lt_of_succ_lt hn)) s f hp v
    refine e.trans ((and_congr (ih v) Iff.rfl).trans (and_assoc.trans (and_congr_right fun _ => ?_)))
    constructor
    · rintro ⟨g1, g2⟩ i hi hs
      by_cases hlt : i.val < 2560 * (n + 1)
      · exact g1 i hlt hs
      · obtain ⟨j, rfl⟩ := pt (n + 1) hn i (by omega) (by omega)
        exact g2 j hs
    · intro g
      refine ⟨fun i hi => g i (by omega), fun j => g _ ?_⟩
      rw [pt']
      have := j.isLt
      simp only
      omega

end Acc

theorem lastStep : 124 < cfg0.N := by have e : cfg0.N = 125 := N_0; omega

/-- The call leaves the accumulator after its last step. -/
theorem X2_v3 : (X2 m c (Proc.devRef .tc main_v3) : Vec Ideal S4352x64 .f32) = accAt (fun c b => X1 m c b) c 124 lastStep := by
  refine (X2_arr m c 6).trans ?_
  refine (dat0 (fun c b => X1 m c b) c).arrAt_eq_of_covers 6 _ (by decide +kernel) fun t hf y => ?_
  have ht : t.val = 124 := by
    have h1 := (flush0_6 t).mp hf
    have h2 := t.isLt
    have e : cfg0.N = 125 := N_0
    omega
  obtain rfl : t = ⟨124, lastStep⟩ := Fin.ext ht
  have hi : ∀ t : Fin cfg0.N, win0_6.index t 0 = 0 ∧ win0_6.index t 1 = 0 := by decide +kernel
  have hi := hi ⟨124, lastStep⟩
  show accAt (fun c b => X1 m c b) c 124 lastStep _ = accAt (fun c b => X1 m c b) c 124 lastStep _
  congr 1
  funext a
  apply Fin.ext
  match a with
  | ⟨0, _⟩ => show (y 0).val = win0_6.index ⟨124, lastStep⟩ 0 * 4352 + 1 * (y 0).val; rw [hi.1]; omega
  | ⟨1, _⟩ => show (y 1).val = win0_6.index ⟨124, lastStep⟩ 1 * 64 + 1 * (y 1).val; rw [hi.2]; omega

/-- The superpoints' tokens, as the second call is handed them. -/
def token (s : Fin 4096) (f : Fin 64) : EReal := (X3 m c (Proc.devRef .tc main_v4) : Vec Ideal S4096x64 .f32) (ix2 s f)

/-- A token is the maximum of zero and the second layer at the superpoint's points. -/
theorem token_le_iff (ok : IdsOk (A1 m c) (A2 m c)) (s : Fin 4096) (f : Fin 64) (v : EReal) :
    token m c s f ≤ v ↔ 0 ≤ v ∧ ∀ i : Fin 320000, (A1 m c (ix1 i)).toInt = s.val → layer m c i f ≤ v := by
  have e : (X3 m c (Proc.devRef .tc main_v4) : Vec Ideal S4096x64 .f32)
      = extractStridedSlice S4096x64 ![0, 0] (X2 m c (Proc.devRef .tc main_v3) : Vec Ideal S4352x64 .f32) slices_S4352x64_S4096x64_0_0 := by
    simp only [X3, hostOps1]
    after_reads_simp
  have e2 : token m c s f = accAt (fun c b => X1 m c b) c 124 lastStep (ix2 (⟨s.val, by have := s.isLt; omega⟩ : Fin 4352) f) := by
    unfold token
    rw [e, X2_v3]
    refine extractStridedSlice_apply _ _ _ _ _ fun a => ?_
    match a with
    | ⟨0, _⟩ => show s.val = 0 + s.val; omega
    | ⟨1, _⟩ => show f.val = 0 + f.val; omega
  rw [e2, accAt_le_iff m c ok]
  refine and_congr_right fun _ => forall_congr' fun i => ?_
  have := i.isLt
  exact ⟨fun g => g (by omega), fun g _ => g⟩

end Cert.KernelIdeal.Hand

end
-- ==== Proof.Place.lean ====
module

public import proofs.«01_k».proof.Proof.Accum

@[expose] public section

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Counting by doubling -/

/-- How many of the `k` places up to and including `p` satisfy `K`. -/
def cnt (K : Fin 4096 → Prop) (k : ℕ) (p : Fin 4096) : ℕ := open Classical in
  (Finset.univ.filter fun q : Fin 4096 => K q ∧ q.val ≤ p.val ∧ p.val < q.val + k).card

/-- Twice as many places split into the nearer and the farther half. -/
theorem cnt_double (K : Fin 4096 → Prop) (k : ℕ) (p : Fin 4096) :
    cnt K (k + k) p = cnt K k p + if h : k ≤ p.val then cnt K k ⟨p.val - k, by have := p.isLt; omega⟩ else 0 := by
  classical
  unfold cnt
  split
  · rename_i h
    rw [← Finset.card_union_of_disjoint]
    · congr 1
      ext q
      simp only [Finset.mem_filter, Finset.mem_univ, true_and, Finset.mem_union]
      constructor
      · rintro ⟨h1, h2, h3⟩
        by_cases h4 : p.val < q.val + k
        · exact .inl ⟨h1, h2, h4⟩
        · exact .inr ⟨h1, by omega, by omega⟩
      · rintro (⟨h1, h2, h3⟩ | ⟨h1, h2, h3⟩)
        · exact ⟨h1, h2, by omega⟩
        · exact ⟨h1, by omega, by omega⟩
    · rw [Finset.disjoint_left]
      intro q hq hq'
      have h1 := (Finset.mem_filter.mp hq).2
      have h2 := (Finset.mem_filter.mp hq').2
      have := h2.2.1
      simp only at this
      omega
  · rename_i h
    rw [add_zero]
    congr 1
    ext q
    simp only [Finset.mem_filter, Finset.mem_univ, true_and]
    constructor
    · rintro ⟨h1, h2, h3⟩; exact ⟨h1, h2, by omega⟩
    · rintro ⟨h1, h2, h3⟩; exact ⟨h1, h2, by omega⟩

/-- One place back is the place itself. -/
theorem cnt_one (K : Fin 4096 → Prop) [DecidablePred K] (p : Fin 4096) : cnt K 1 p = if K p then 1 else 0 := by
  classical
  unfold cnt
  split
  · rename_i h
    refine Finset.card_eq_one.mpr ⟨p, ?_⟩
    ext q
    simp only [Finset.mem_filter, Finset.mem_univ, true_and, Finset.mem_singleton]
    constructor
    · rintro ⟨_, h2, h3⟩; exact Fin.ext (by omega)
    · rintro rfl; exact ⟨h, le_rfl, by omega⟩
  · rename_i h
    refine Finset.card_eq_zero.mpr ?_
    ext q
    simp only [Finset.mem_filter, Finset.mem_univ, true_and, Finset.notMem_empty, iff_false]
    rintro ⟨h1, h2, h3⟩
    obtain rfl : q = p := Fin.ext (by omega)
    exact h h1

/-- One round of the running sum over the places. -/
def sumRound (k r : ℕ) (hs : S128x4096.Slices ![0, 0] ⟨2, ![128, r]⟩) (hc : Shape.Concatenates [⟨2, ![128, k]⟩, ⟨2, ![128, r]⟩] S128x4096 1)
    (s : FVec F S128x4096 .f32) : FVec F S128x4096 .f32 :=
  addf s (shifted k r 128 (Scalar.ofBits .f32 0x00000000#32) s hs hc)

/-- The running sum after all its rounds. -/
def sums (x1 x2 : Vec F S1x4096 .i32) : FVec F S128x4096 .f32 :=
  (sumRound 2048 2048 slices_S128x4096_o0_0_S128x2048 concatenates_S128x2048_S128x2048_S128x4096_d1
        (sumRound 1024 3072 slices_S128x4096_o0_0_S128x3072 concatenates_S128x1024_S128x3072_S128x4096_d1
        (sumRound 512 3584 slices_S128x4096_o0_0_S128x3584 concatenates_S128x512_S128x3584_S128x4096_d1
        (sumRound 256 3840 slices_S128x4096_o0_0_S128x3840 concatenates_S128x256_S128x3840_S128x4096_d1
        (sumRound 128 3968 slices_S128x4096_o0_0_S128x3968 concatenates_S128x128_S128x3968_S128x4096_d1
        (sumRound 64 4032 slices_S128x4096_o0_0_S128x4032 concatenates_S128x64_S128x4032_S128x4096_d1
        (sumRound 32 4064 slices_S128x4096_o0_0_S128x4064 concatenates_S128x32_S128x4064_S128x4096_d1
        (sumRound 16 4080 slices_S128x4096_o0_0_S128x4080 concatenates_S128x16_S128x4080_S128x4096_d1
        (sumRound 8 4088 slices_S128x4096_o0_0_S128x4088 concatenates_S128x8_S128x4088_S128x4096_d1
        (sumRound 4 4092 slices_S128x4096_o0_0_S128x4092 concatenates_S128x4_S128x4092_S128x4096_d1
        (sumRound 2 4094 slices_S128x4096_o0_0_S128x4094 concatenates_S128x2_S128x4094_S128x4096_d1
        (sumRound 1 4095 slices_S128x4096_o0_0_S128x4095 concatenates_S128x1_S128x4095_S128x4096_d1
        (k1_pay2 x1 x2)))))))))))))

/-- The key of a place: twice its group, plus its flag. -/
def keyAt (x1 x2 : Vec F S1x4096 .i32) (p : Fin 4096) : BitVec 32 := x1 (ix2 (0 : Fin 1) p) * 2#32 + x2 (ix2 (0 : Fin 1) p)

/-- The one-hot matrix of the keys. -/
theorem onehot_apply (x1 x2 : Vec Ideal S1x4096 .i32) (g : Fin 128) (p : Fin 4096) :
    (k1_pay2 x1 x2 (ix2 g p) : EReal) = ((if BitVec.ofNat 32 g.val = keyAt x1 x2 p then 1 else 0 : ℝ) : EReal) := by
  have e : k1_pay2 x1 x2 (ix2 g p) = (FloatOps.sitofp .f32 (BitVec.setWidth 32 (IntOp.cmpi .eq (BitVec.ofNat 32 g.val) (keyAt x1 x2 p))) : Ideal .f32) := by
    pointwise [k1_pay2, k1_pay1, keyAt]
    rfl
  rw [e, WordCmp.cmpi_eq_eq, flag_value]

/-- After the rounds so far each element counts the places of its key among the `k` places up to it. -/
def Counts (k : ℕ) (x1 x2 : Vec Ideal S1x4096 .i32) (s : FVec Ideal S128x4096 .f32) : Prop :=
  ∀ (g : Fin 128) (p : Fin 4096), (s (ix2 g p) : EReal) = ((cnt (fun q => BitVec.ofNat 32 g.val = keyAt x1 x2 q) k p : ℝ) : EReal)

theorem counts_one (x1 x2 : Vec Ideal S1x4096 .i32) : Counts 1 x1 x2 (k1_pay2 x1 x2) := by
  intro g p
  rw [onehot_apply, cnt_one]
  split <;> simp

/-- A round doubles the reach of the count. -/
theorem counts_round (k r : ℕ) (x1 x2 : Vec Ideal S1x4096 .i32) (hs) (hc) (s : FVec Ideal S128x4096 .f32) (hk : k + r = 4096) (h : Counts k x1 x2 s) :
    Counts (k + k) x1 x2 (sumRound k r hs hc s) := by
  intro g p
  have e : (sumRound k r hs hc s (ix2 g p) : EReal) = (s (ix2 g p) : EReal) + (shifted k r 128 (Scalar.ofBits (F := Ideal) .f32 0x00000000#32) s hs hc (ix2 g p) : EReal) := rfl
  rw [e, shifted_apply k r 128 _ s hs hc hk, h g p, cnt_double]
  split
  · rename_i h'
    rw [h g ⟨p.val - k, by omega⟩, ← EReal.coe_add]
    push_cast
    rfl
  · have z : (Scalar.ofBits (F := Ideal) .f32 0x00000000#32) = (0 : EReal) := Ideal.ofBits_zero_f32
    rw [z, add_zero, add_zero]

/-- The running sum at a place counts the places of that key up to it. -/
theorem sums_counts (x1 x2 : Vec Ideal S1x4096 .i32) : Counts 4096 x1 x2 (sums x1 x2) := by
  unfold sums
  exact (counts_round 2048 2048 x1 x2 _ _ _ rfl
    (counts_round 1024 3072 x1 x2 _ _ _ rfl
    (counts_round 512 3584 x1 x2 _ _ _ rfl
    (counts_round 256 3840 x1 x2 _ _ _ rfl
    (counts_round 128 3968 x1 x2 _ _ _ rfl
    (counts_round 64 4032 x1 x2 _ _ _ rfl
    (counts_round 32 4064 x1 x2 _ _ _ rfl
    (counts_round 16 4080 x1 x2 _ _ _ rfl
    (counts_round 8 4088 x1 x2 _ _ _ rfl
    (counts_round 4 4092 x1 x2 _ _ _ rfl
    (counts_round 2 4094 x1 x2 _ _ _ rfl
    (counts_round 1 4095 x1 x2 _ _ _ rfl
    (counts_one x1 x2)))))))))))))

end Cert.KernelIdeal.Hand

end
-- ==== Proof.Deal.lean ====
module

public import proofs.«01_k».proof.Proof.Place

@[expose] public section

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The places the second call deals the tokens to -/

/-- The one-hot matrix of the tokens' rows in block `a`, from the groups, the one-hot matrix of the keys and its running sum. -/
def deal (a : BitVec 32) (v1 : IVec S1x4096 32) (v10 v58 : FVec F S128x4096 .f32) : FVec F S1024x4096 .f32 :=
  sitofp .f32 (extui 32 (cmpi .eq (addi (iota .tc S1024x4096 32 [0] iota_S1024x4096_d0_w32) (broadcast S1024x4096 (Scalar.muli a 1024#32)))
    (broadcastTo S1024x4096 (addi (muli v1 (broadcast S1x4096 128#32))
      (fptosi 32 (minimumf (shapeCast S1x4096 (multiReduction .add [0] S4096 (mulf (subf v58 v10) v10) 0x00000000#32 reduces_S128x4096_S4096 (.inl rfl) rfl)
        shapeCasts_S4096_S1x4096) (broadcast S1x4096 (Scalar.ofBits .f32 0x42FE0000#32))))) broadcasts_S1x4096_S1024x4096)) natLt_1_32)

theorem pay6_deal (a : BitVec 32) (x1 x2 : Vec F S1x4096 .i32) :
    k1_pay6 a (k1_pay1 x1) (k1_pay2 x1 x2) (k1_pay3 x1 x2) (k1_pay4 (F := F)) (k1_pay5 x1 x2) = deal a (k1_pay1 x1) (k1_pay2 x1 x2) (sums x1 x2) := by
  unfold k1_pay6 k1_pay5 k1_pay4 k1_pay3
  rfl

/-- The tokens before `p` of its group and flag. -/
def rank (x1 x2 : Vec F S1x4096 .i32) (p : Fin 4096) : ℕ := (Finset.univ.filter fun q : Fin 4096 => keyAt x1 x2 q = keyAt x1 x2 p ∧ q.val < p.val).card
/-- The slot of token `p` in its group. -/
def slot (x1 x2 : Vec F S1x4096 .i32) (p : Fin 4096) : ℕ := min (rank x1 x2 p) 127

theorem slot_lt (x1 x2 : Vec F S1x4096 .i32) (p : Fin 4096) : slot x1 x2 p < 128 := by unfold slot; omega

/-- The groups are groups and the flags are zero or one. -/
structure RowOk (x1 x2 : Vec F S1x4096 .i32) : Prop where
  group : ∀ p, (x1 (ix2 (0 : Fin 1) p) : BitVec 32).toNat < 64
  flag : ∀ p, (x2 (ix2 (0 : Fin 1) p) : BitVec 32).toNat < 2

theorem key_toNat {x1 x2 : Vec F S1x4096 .i32} (ok : RowOk x1 x2) (p : Fin 4096) :
    (keyAt x1 x2 p).toNat = 2 * (x1 (ix2 (0 : Fin 1) p) : BitVec 32).toNat + (x2 (ix2 (0 : Fin 1) p) : BitVec 32).toNat := by
  have h1 := ok.group p
  have h2 := ok.flag p
  unfold keyAt
  rw [BitVec.toNat_add, BitVec.toNat_mul]
  simp
  omega

/-- Counting a place itself beside those before it. -/
theorem cnt_all (K : Fin 4096 → Prop) [DecidablePred K] (p : Fin 4096) (hp : K p) :
    cnt K 4096 p = (Finset.univ.filter fun q : Fin 4096 => K q ∧ q.val < p.val).card + 1 := by
  classical
  unfold cnt
  refine (congrArg Finset.card (?_ : _ = insert p (Finset.univ.filter fun q : Fin 4096 => K q ∧ q.val < p.val))).trans
    (Finset.card_insert_of_notMem (by simp))
  ext q
  simp only [Finset.mem_filter, Finset.mem_univ, true_and, Finset.mem_insert]
  constructor
  · rintro ⟨h1, h2, h3⟩
    by_cases h : q.val < p.val
    · exact .inr ⟨h1, h⟩
    · exact .inl (Fin.ext (by omega))
  · rintro (rfl | ⟨h1, h2⟩)
    · exact ⟨hp, le_rfl, by omega⟩
    · have := p.isLt
      exact ⟨h1, by omega, by omega⟩

/-- The column sum that gives a token's rank. -/
theorem rank_sum {x1 x2 : Vec Ideal S1x4096 .i32} (ok : RowOk x1 x2) (p : Fin 4096) :
    (∑ g : Fin 128, ((sums x1 x2 (ix2 g p) : EReal) - (k1_pay2 x1 x2 (ix2 g p) : EReal)) * (k1_pay2 x1 x2 (ix2 g p) : EReal)) = ((rank x1 x2 p : ℝ) : EReal) := by
  have hk := key_toNat ok p
  have h1 := ok.group p
  have h2 := ok.flag p
  have hg : BitVec.ofNat 32 (keyAt x1 x2 p).toNat = keyAt x1 x2 p := by simp
  have hlt : (keyAt x1 x2 p).toNat < 128 := by omega
  rw [Finset.sum_eq_single (⟨(keyAt x1 x2 p).toNat, hlt⟩ : Fin 128)]
  · rw [onehot_apply, sums_counts x1 x2 _ p]
    simp only [hg]
    rw [cnt_all (fun q => keyAt x1 x2 p = keyAt x1 x2 q) p rfl, if_pos trivial]
    rw [← EReal.coe_sub, ← EReal.coe_mul]
    congr 1
    push_cast
    unfold rank
    simp only [eq_comm, mul_one, add_sub_cancel_right]
  · intro g _ hne
    rw [onehot_apply, if_neg, EReal.coe_zero, mul_zero]
    intro e
    refine hne (Fin.ext ?_)
    have := congrArg BitVec.toNat e
    have h3 := g.isLt
    simp only [BitVec.toNat_ofNat] at this
    simp only
    omega
  · intro h; exact absurd (Finset.mem_univ _) h

theorem toInt_slot (n : ℕ) (h : n < 2 ^ 31) : Ideal.fptosi 32 (((n : ℝ)) : EReal) = BitVec.ofNat 32 n := by
  rw [Ideal.fptosi, Ideal.toIntClamped_coe, if_pos (Nat.cast_nonneg n), Int.floor_natCast]
  rw [← BitVec.ofInt_natCast]
  congr 1
  norm_num
  omega

/-- The one-hot matrix of the rows: row `r` of block `j` is token `p`'s when it is its group's row at its slot. -/
theorem deal_apply {x1 x2 : Vec Ideal S1x4096 .i32} (ok : RowOk x1 x2) (j : ℕ) (hj : j < 8) (r : Fin 1024) (p : Fin 4096) :
    (deal (BitVec.ofNat 32 j) (k1_pay1 x1) (k1_pay2 x1 x2) (sums x1 x2) (ix2 r p) : EReal)
      = ((if 1024 * j + r.val = 128 * (x1 (ix2 (0 : Fin 1) p) : BitVec 32).toNat + slot x1 x2 p then 1 else 0 : ℝ) : EReal) := by
  have e : (deal (BitVec.ofNat 32 j) (k1_pay1 x1) (k1_pay2 x1 x2) (sums x1 x2) (ix2 r p) : EReal)
      = (FloatOps.sitofp .f32 (BitVec.setWidth 32 (IntOp.cmpi .eq (IntOp.addi (BitVec.ofNat 32 r.val) (Scalar.muli (BitVec.ofNat 32 j) 1024#32))
          (IntOp.addi (IntOp.muli (x1 (ix2 (0 : Fin 1) p)) 128#32)
            (FloatOps.fptosi 32 (min (∑ g : Fin 128, ((sums x1 x2 (ix2 g p) : EReal) - (k1_pay2 x1 x2 (ix2 g p) : EReal)) * (k1_pay2 x1 x2 (ix2 g p) : EReal))
              (Ideal.ofBits .f32 1123942400#32) : Ideal .f32))))) : Ideal .f32) := by
    generalize sums x1 x2 = v58
    generalize k1_pay2 x1 x2 = v10
    pointwise [deal, k1_pay1]
  have hb : Ideal.ofBits .f32 1123942400#32 = (((127 : ℕ) : ℝ) : EReal) := by
    simp [Ideal.ofBits, Ideal.ieee]
    rw [← EReal.coe_mul]
    norm_num
  have hf : (FloatOps.fptosi (F := Ideal) (φ := .f32) 32 ((slot x1 x2 p : ℝ) : EReal)) = BitVec.ofNat 32 (slot x1 x2 p) :=
    toInt_slot (slot x1 x2 p) (lt_trans (slot_lt x1 x2 p) (by norm_num))
  have hm : min ((rank x1 x2 p : ℝ) : EReal) (((127 : ℕ) : ℝ) : EReal) = ((slot x1 x2 p : ℝ) : EReal) := by
    unfold slot
    rcases le_total (rank x1 x2 p) 127 with h | h
    · rw [min_eq_left h, min_eq_left (by exact_mod_cast h)]
    · rw [min_eq_right h, min_eq_right (by exact_mod_cast h)]
  rw [e, rank_sum ok p, hb, hm, hf, WordCmp.cmpi_eq_eq, flag_value]
  congr 1
  refine if_congr ?_ rfl rfl
  rw [← BitVec.toNat_inj]
  have h1 := ok.group p
  have h2 := slot_lt x1 x2 p
  have h3 := r.isLt
  have e1 : (IntOp.addi (BitVec.ofNat 32 r.val) (Scalar.muli (BitVec.ofNat 32 j) 1024#32)).toNat = 1024 * j + r.val := by
    show (BitVec.ofNat 32 r.val + BitVec.ofNat 32 j * 1024#32).toNat = _
    rw [BitVec.toNat_add, BitVec.toNat_mul]
    simp
    omega
  have e2 : (IntOp.addi (IntOp.muli (x1 (ix2 (0 : Fin 1) p)) 128#32) (BitVec.ofNat 32 (slot x1 x2 p))).toNat
      = 128 * (x1 (ix2 (0 : Fin 1) p) : BitVec 32).toNat + slot x1 x2 p := by
    show ((x1 (ix2 (0 : Fin 1) p) : BitVec 32) * 128#32 + BitVec.ofNat 32 (slot x1 x2 p)).toNat = _
    rw [BitVec.toNat_add, BitVec.toNat_mul]
    simp
    omega
  rw [e1, e2]

/-- What a step deals to a row: the tokens of that row, each times its weight. -/
def dealt (x1 x2 : Vec Ideal S1x4096 .i32) (wt : Fin 4096 → EReal) (x0 : Vec Ideal S4096x64 .f32) (row : ℕ) (f : Fin 64) : EReal :=
  ∑ p : Fin 4096, if row = 128 * (x1 (ix2 (0 : Fin 1) p) : BitVec 32).toNat + slot x1 x2 p then wt p * (x0 (ix2 p f) : EReal) else 0

/-- The weights of the kept and of the masked tokens. -/
def keepWeight (x2 : Vec Ideal S1x4096 .i32) (p : Fin 4096) : EReal := (FloatOps.sitofp .f32 (IntOp.subi 1#32 (x2 (ix2 (0 : Fin 1) p))) : Ideal .f32)
def dropWeight (x2 : Vec Ideal S1x4096 .i32) (p : Fin 4096) : EReal := (FloatOps.sitofp .f32 (x2 (ix2 (0 : Fin 1) p)) : Ideal .f32)

theorem onehot_term (P : Prop) [Decidable P] (w t : EReal) : ((if P then 1 else 0 : ℝ) : EReal) * w * t = if P then w * t else 0 := by
  split <;> simp

theorem kept_apply (i : grid1.Coords) {x1 x2 : Vec Ideal S1x4096 .i32} (ok : RowOk x1 x2) (x0 : Vec Ideal S4096x64 .f32) (hi : (i 0).val < 8) (r : Fin 1024) (f : Fin 64) :
    (kept i x0 x1 x2 (ix2 r f) : EReal) = dealt x1 x2 (keepWeight x2) x0 (1024 * (i 0).val + r.val) f := by
  have e : ∀ oh : FVec Ideal S1024x4096 .f32,
      k1_pay6 (BitVec.ofNat 32 (i 0).val) (k1_pay1 x1) (k1_pay2 x1 x2) (k1_pay3 x1 x2) (k1_pay4 (F := Ideal)) (k1_pay5 x1 x2) = oh →
      (kept i x0 x1 x2 (ix2 r f) : EReal) = ∑ p : Fin 4096, (oh (ix2 r p) : EReal) * keepWeight x2 p * (x0 (ix2 p f) : EReal) := by
    intro oh h
    unfold kept k1_pay8 keepWeight
    rw [h]
    pointwise [k1_pay7]
  rw [e _ (pay6_deal _ _ _)]
  unfold dealt
  simp only [deal_apply ok _ hi, onehot_term]

theorem dropped_apply (i : grid1.Coords) {x1 x2 : Vec Ideal S1x4096 .i32} (ok : RowOk x1 x2) (x0 : Vec Ideal S4096x64 .f32) (hi : (i 0).val < 8) (r : Fin 1024) (f : Fin 64) :
    (dropped i x0 x1 x2 (ix2 r f) : EReal) = dealt x1 x2 (dropWeight x2) x0 (1024 * (i 0).val + r.val) f := by
  have e : ∀ oh : FVec Ideal S1024x4096 .f32,
      k1_pay6 (BitVec.ofNat 32 (i 0).val) (k1_pay1 x1) (k1_pay2 x1 x2) (k1_pay3 x1 x2) (k1_pay4 (F := Ideal)) (k1_pay5 x1 x2) = oh →
      (dropped i x0 x1 x2 (ix2 r f) : EReal) = ∑ p : Fin 4096, (oh (ix2 r p) : EReal) * dropWeight x2 p * (x0 (ix2 p f) : EReal) := by
    intro oh h
    unfold dropped k1_pay9 dropWeight
    rw [h]
    pointwise [k1_pay7]
  rw [e _ (pay6_deal _ _ _)]
  unfold dealt
  simp only [deal_apply ok _ hi, onehot_term]

end Cert.KernelIdeal.Hand

end
-- ==== Proof.Out.lean ====
module

public import proofs.«01_k».proof.Proof.Deal

@[expose] public section

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open scoped Idealize.ShloMosaic.ValueIdx

variable (m : (ℓ : Loc nD τ sig) → Buf (Elt Ideal) ℓ) (c : Dev nD)

/-! ## What the second call is handed -/

/-- The tokens. -/
abbrev toks : Vec Ideal S4096x64 .f32 := X3 m c (Proc.devRef .tc main_v4)
/-- The groups, as a row. -/
abbrev groups : Vec Ideal S1x4096 .i32 := X3 m c (Proc.devRef .tc main_v5)
/-- The flags, as a row. -/
abbrev flags : Vec Ideal S1x4096 .i32 := X3 m c (Proc.devRef .tc main_c)

theorem groups_apply (p : Fin 4096) : groups m c (ix2 (0 : Fin 1) p) = A2 m c (ix1 p) := by
  have e : groups m c = shapeCast S1x4096 (A2 m c) shapeCasts_S4096_S1x4096 := by
    have e2 : A2 m c = (X2 m c (Proc.devRef .tc main_arg2) : Vec Ideal S4096 .i32) :=
      ((X2_of m c main_arg2 (by decide)).trans (X1_args m c main_arg2 (by decide))).symm
    rw [e2]
    unfold groups
    simp only [X3, hostOps1]
    after_reads_simp
    rfl
  rw [e]
  exact shapeCast_apply _ _ _ _ (by
    rw [Shape.rowMajor_val_one, Shape.rowMajor_val_two]
    show p.val = 0 * 4096 + p.val
    omega)

theorem flags_apply (p : Fin 4096) : flags m c (ix2 (0 : Fin 1) p) = Cert.KernelIdeal.lit0 p := by
  have e : flags m c = fun i => Cert.KernelIdeal.lit0 (S1x4096.rowMajor i) := by
    refine (StableHlo.after_of_writes_sub hostOps1 _ hostOps1_writes (by decide : main_c ∉ hostOps1_W)).trans ?_
    refine (X2_of m c main_c (by decide)).trans ?_
    simp only [X1, hostOps0]
    after_reads_simp
    rfl
  rw [e]
  show Cert.KernelIdeal.lit0 _ = _
  congr 1
  apply Fin.ext
  rw [Shape.rowMajor_val_two]
  show 0 * 4096 + p.val = p.val
  omega

theorem index1_0 : ∀ t : Fin cfg1.N, win1_0.index t 0 = 0 ∧ win1_0.index t 1 = 0 := by decide +kernel
theorem index1_1 : ∀ t : Fin cfg1.N, win1_1.index t 0 = 0 ∧ win1_1.index t 1 = 0 := by decide +kernel
theorem index1_2 : ∀ t : Fin cfg1.N, win1_2.index t 0 = 0 ∧ win1_2.index t 1 = 0 := by decide +kernel
theorem index1_3 : ∀ t : Fin cfg1.N, win1_3.index t 0 = t.val ∧ win1_3.index t 1 = 0 := by decide +kernel
theorem index1_4 : ∀ t : Fin cfg1.N, win1_4.index t 0 = t.val ∧ win1_4.index t 1 = 0 := by decide +kernel
theorem coord1 : ∀ t : Fin cfg1.N, (grid1.coords t 0).val = t.val ∧ t.val < 8 := by decide +kernel

theorem blk1_toks (t : Fin cfg1.N) : (blk1 (fun c b => X3 m c b) c 0 t : Vec Ideal S4096x64 .f32) = toks m c := by
  have hi := index1_0 t
  funext y
  show toks m c _ = toks m c _
  congr 1
  funext a
  apply Fin.ext
  match a with
  | ⟨0, _⟩ => show win1_0.index t 0 * 4096 + 1 * (y 0).val = (y 0).val; rw [hi.1]; omega
  | ⟨1, _⟩ => show win1_0.index t 1 * 64 + 1 * (y 1).val = (y 1).val; rw [hi.2]; omega

theorem blk1_groups (t : Fin cfg1.N) : (blk1 (fun c b => X3 m c b) c 1 t : Vec Ideal S1x4096 .i32) = groups m c := by
  have hi := index1_1 t
  funext y
  show groups m c _ = groups m c _
  congr 1
  funext a
  apply Fin.ext
  match a with
  | ⟨0, _⟩ => show win1_1.index t 0 * 1 + 1 * (y 0).val = (y 0).val; rw [hi.1]; omega
  | ⟨1, _⟩ => show win1_1.index t 1 * 4096 + 1 * (y 1).val = (y 1).val; rw [hi.2]; omega

theorem blk1_flags (t : Fin cfg1.N) : (blk1 (fun c b => X3 m c b) c 2 t : Vec Ideal S1x4096 .i32) = flags m c := by
  have hi := index1_2 t
  funext y
  show flags m c _ = flags m c _
  congr 1
  funext a
  apply Fin.ext
  match a with
  | ⟨0, _⟩ => show win1_2.index t 0 * 1 + 1 * (y 0).val = (y 0).val; rw [hi.1]; omega
  | ⟨1, _⟩ => show win1_2.index t 1 * 4096 + 1 * (y 1).val = (y 1).val; rw [hi.2]; omega

/-! ## What the second call leaves -/

/-- The array a weight deals. -/
def dealtAll (wt : Fin 4096 → EReal) : Vec Ideal S8192x64 .f32 :=
  fun i => dealt (groups m c) (flags m c) wt (toks m c) (i 0).val (i 1)

theorem X4_v6_0 (ok : RowOk (groups m c) (flags m c)) :
    (X4 m c (Proc.devRef .tc main_v6_0) : Vec Ideal S8192x64 .f32) = dealtAll m c (keepWeight (flags m c)) := by
  refine (X4_arr m c 3).trans ?_
  refine (dat1 (fun c b => X3 m c b) c).arrAt_eq_of_covers 3 _ (by decide +kernel) fun t hf y => ?_
  have hi := index1_3 t
  have hc := coord1 t
  show kept (grid1.coords t) (blk1 (fun c b => X3 m c b) c 0 t) (blk1 (fun c b => X3 m c b) c 1 t) (blk1 (fun c b => X3 m c b) c 2 t) _ = dealtAll m c _ _
  rw [blk1_toks, blk1_groups, blk1_flags]
  refine (kept_apply (grid1.coords t) ok (toks m c) (by rw [hc.1]; exact hc.2) (⟨(y 0).val, (y 0).isLt⟩ : Fin 1024) (⟨(y 1).val, (y 1).isLt⟩ : Fin 64)
    |> (Eq.trans (congrArg (kept (grid1.coords t) (toks m c) (groups m c) (flags m c)) ?_))).trans ?_
  · funext a
    match a with
    | ⟨0, _⟩ => rfl
    | ⟨1, _⟩ => rfl
  · refine congrArg₂ (dealt (groups m c) (flags m c) (keepWeight (flags m c)) (toks m c)) ?_ (Fin.ext ?_)
    · show 1024 * (grid1.coords t 0).val + (y 0).val = win1_3.index t 0 * 1024 + 1 * (y 0).val
      rw [hi.1, hc.1]
      omega
    · show (y 1).val = win1_3.index t 1 * 64 + 1 * (y 1).val
      rw [hi.2]; omega

/-- The first result: row `q` of group `g` is row `128 g + q` of the dealt array. -/
theorem X5_v7_apply (ok : RowOk (groups m c) (flags m c)) (g : Fin 64) (q : Fin 128) (f : Fin 64) :
    (X5 m c (Proc.devRef .tc main_v7) : Vec Ideal S64x128x64 .f32) (ix3 g q f)
      = dealt (groups m c) (flags m c) (keepWeight (flags m c)) (toks m c) (128 * g.val + q.val) f := by
  have e : (X5 m c (Proc.devRef .tc main_v7) : Vec Ideal S64x128x64 .f32)
      = shapeCast S64x128x64 (X4 m c (Proc.devRef .tc main_v6_0) : Vec Ideal S8192x64 .f32) shapeCasts_S8192x64_S64x128x64 := by
    simp only [X5, hostOps2]
    after_reads_simp
    rfl
  have hg := g.isLt
  have hq := q.isLt
  rw [e, X4_v6_0 m c ok]
  exact shapeCast_apply _ _ _ (ix2 (⟨128 * g.val + q.val, by omega⟩ : Fin 8192) f) (by
    rw [Shape.rowMajor_val_two, Shape.rowMajor_val_three]
    show (128 * g.val + q.val) * 64 + f.val = (g.val * 128 + q.val) * 64 + f.val
    omega)

theorem X4_v6_1 (ok : RowOk (groups m c) (flags m c)) :
    (X4 m c (Proc.devRef .tc main_v6_1) : Vec Ideal S8192x64 .f32) = dealtAll m c (dropWeight (flags m c)) := by
  refine (X4_arr m c 4).trans ?_
  refine (dat1 (fun c b => X3 m c b) c).arrAt_eq_of_covers 4 _ (by decide +kernel) fun t hf y => ?_
  have hi := index1_4 t
  have hc := coord1 t
  show dropped (grid1.coords t) (blk1 (fun c b => X3 m c b) c 0 t) (blk1 (fun c b => X3 m c b) c 1 t) (blk1 (fun c b => X3 m c b) c 2 t) _ = dealtAll m c _ _
  rw [blk1_toks, blk1_groups, blk1_flags]
  refine (dropped_apply (grid1.coords t) ok (toks m c) (by rw [hc.1]; exact hc.2) (⟨(y 0).val, (y 0).isLt⟩ : Fin 1024) (⟨(y 1).val, (y 1).isLt⟩ : Fin 64)
    |> (Eq.trans (congrArg (dropped (grid1.coords t) (toks m c) (groups m c) (flags m c)) ?_))).trans ?_
  · funext a
    match a with
    | ⟨0, _⟩ => rfl
    | ⟨1, _⟩ => rfl
  · refine congrArg₂ (dealt (groups m c) (flags m c) (dropWeight (flags m c)) (toks m c)) ?_ (Fin.ext ?_)
    · show 1024 * (grid1.coords t 0).val + (y 0).val = win1_4.index t 0 * 1024 + 1 * (y 0).val
      rw [hi.1, hc.1]
      omega
    · show (y 1).val = win1_4.index t 1 * 64 + 1 * (y 1).val
      rw [hi.2]; omega

/-- The second result: row `q` of group `g` is row `128 g + q` of the dealt array. -/
theorem X5_v8_apply (ok : RowOk (groups m c) (flags m c)) (g : Fin 64) (q : Fin 128) (f : Fin 64) :
    (X5 m c (Proc.devRef .tc main_v8) : Vec Ideal S64x128x64 .f32) (ix3 g q f)
      = dealt (groups m c) (flags m c) (dropWeight (flags m c)) (toks m c) (128 * g.val + q.val) f := by
  have e : (X5 m c (Proc.devRef .tc main_v8) : Vec Ideal S64x128x64 .f32)
      = shapeCast S64x128x64 (X4 m c (Proc.devRef .tc main_v6_1) : Vec Ideal S8192x64 .f32) shapeCasts_S8192x64_S64x128x64 := by
    simp only [X5, hostOps2]
    after_reads_simp
    rfl
  have hg := g.isLt
  have hq := q.isLt
  rw [e, X4_v6_1 m c ok]
  exact shapeCast_apply _ _ _ (ix2 (⟨128 * g.val + q.val, by omega⟩ : Fin 8192) f) (by
    rw [Shape.rowMajor_val_two, Shape.rowMajor_val_three]
    show (128 * g.val + q.val) * 64 + f.val = (g.val * 128 + q.val) * 64 + f.val
    omega)

end Cert.KernelIdeal.Hand

end
-- ==== Proof.Ref.lean ====
module

public import proofs.«01_k».proof.Proof.Gen.ReferenceIdeal.Run
public import Idealize.ShloMosaic.Lib.Tactic
public import Idealize.ShloMosaic.Lib.Pointwise
public import Idealize.ShloMosaic.Lib.IndicatorCount
public import Idealize.ShloMosaic.Lib.WordCmp
public import Idealize.ShloMosaic.PureOps.Reduce
public import Idealize.ShloMosaic.PureOps.Ideal.Laws

@[expose] public section

noncomputable section

namespace Cert.ReferenceIdeal.Hand

open Cert.ReferenceIdeal Cert.ReferenceIdeal.Gen Idealize.ShloMosaic Idealize.ShloMosaic.TcCoe Idealize.SL.Sem

/-! ## The reference's results, part by part -/

/-- The two layers of every point. -/
def layersR (x0 : FVec Ideal S320000x128 .f32) (x3 : FVec Ideal S128x64 .f32) (x4 : FVec Ideal S64 .f32) (x5 : FVec Ideal S64x64 .f32) (x6 : FVec Ideal S64 .f32) :
    FVec Ideal S320000x64 .f32 :=
  maximumf (addf (Host.dotGeneral dot_S320000x64_S64x64_S320000x64_1_0_0_1_n_n none (maximumf (addf (Host.dotGeneral dot_S320000x128_S128x64_S320000x64_1_0_0_1_n_n none x0 x3)
    (broadcastInDim S320000x64 ![0, 1] bcast_S1x64_S320000x64_0_1 (broadcastInDim S1x64 ![1] bcast_S64_S1x64_1 x4)))
    (broadcastInDim S320000x64 ![] bcast_S_S320000x64 (constant S_ .f32 0x00000000#32))) x5)
    (broadcastInDim S320000x64 ![0, 1] bcast_S1x64_S320000x64_0_1 (broadcastInDim S1x64 ![1] bcast_S64_S1x64_1 x6)))
    (broadcastInDim S320000x64 ![] bcast_S_S320000x64 (constant S_ .f32 0x00000000#32))

/-- The points a superpoint takes its maximum over, the others at minus infinity. -/
def ownR (x1 : IVec S320000 32) (h : FVec Ideal S320000x64 .f32) : FVec Ideal S4096x320000x64 .f32 :=
  select (broadcastInDim S4096x320000x64 ![0, 1, 2] bcast_S4096x320000x1_S4096x320000x64_0_1_2
      (cmpi .eq (broadcastInDim S4096x320000x1 ![0, 1, 2] bcast_S1x320000x1_S4096x320000x1_0_1_2 (broadcastInDim S1x320000x1 ![1] bcast_S320000_S1x320000x1_1 x1))
        (broadcastInDim S4096x320000x1 ![0, 1, 2] bcast_S4096x1x1_S4096x320000x1_0_1_2 (broadcastInDim S4096x1x1 ![0] bcast_S4096_S4096x1x1_0 (iotaInDim S4096 32 0)))))
    (broadcastInDim S4096x320000x64 ![0, 1, 2] bcast_S1x320000x64_S4096x320000x64_0_1_2 (broadcastInDim S1x320000x64 ![1, 2] bcast_S320000x64_S1x320000x64_1_2 h))
    (broadcastInDim S4096x320000x64 ![] bcast_S_S4096x320000x64 (id (constant S_ .f32 0xFF800000#32)))

/-- Each superpoint's maximum, minus infinity where it has no points. -/
def maxR (x1 : IVec S320000 32) (h : FVec Ideal S320000x64 .f32) : FVec Ideal S4096x64 .f32 :=
  Host.reduce FloatOps.maximumf (ownR x1 h) (constant S_ .f32 0xFF800000#32) reducesTo_S4096x320000x64_S4096x64_d1 h_S_

/-- Each superpoint's token: its maximum, zero where it has no points. -/
def tokR (r : FVec Ideal S4096x64 .f32) : FVec Ideal S4096x64 .f32 :=
  select (cmpf .oeq r (broadcastInDim S4096x64 ![] bcast_S_S4096x64 (constant S_ .f32 0xFF800000#32)))
    (broadcastInDim S4096x64 ![] bcast_S_S4096x64 (id (constant S_ .f32 0x00000000#32))) r

/-- The flags. -/
def flagR : IVec S4096 1 := fun i => lit0 (S4096.rowMajor i)

/-- The group and the flag as one number. -/
def keyR (x2 : IVec S4096 32) (fl : IVec S4096 1) : IVec S4096 32 :=
  addi (muli x2 (broadcastInDim S4096 ![] bcast_S_S4096 (constantI S_ 32 2#32))) (extui 32 fl natLt_1_32)

/-- Which superpoints come before another of the same number. -/
def beforeR (k : IVec S4096 32) : IVec S4096x4096 1 :=
  andi (cmpi .slt (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))
    (cmpi .eq (broadcastInDim S4096x4096 ![0, 1] bcast_S1x4096_S4096x4096_0_1 (broadcastInDim S1x4096 ![1] bcast_S4096_S1x4096_1 k))
      (broadcastInDim S4096x4096 ![0, 1] bcast_S4096x1_S4096x4096_0_1 (broadcastInDim S4096x1 ![0] bcast_S4096_S4096x1_0 k)))

/-- How many come before, at most 127. -/
def posR (k : IVec S4096 32) : IVec S4096 32 :=
  minsi (Host.reduce IntOp.addi (extui 32 (beforeR k) natLt_1_32) (constantI S_ 32 0#32) reducesTo_S4096x4096_S4096_d1 h_S_)
    (broadcastInDim S4096 ![] bcast_S_S4096 (constantI S_ 32 127#32))

/-- An index as the scatter takes it: a negative one counts from the end. -/
def wrapR (n : BitVec 32) (v : IVec S4096 32) : IVec S4096 32 :=
  select (cmpi .slt v (broadcastInDim S4096 ![] bcast_S_S4096 (constantI S_ 32 0#32))) (addi v (broadcastInDim S4096 ![] bcast_S_S4096 (constantI S_ 32 n))) v

/-- Each superpoint's group and slot. -/
def placeR (g q : IVec S4096 32) : IVec S4096x2 32 :=
  concatenate S4096x2 1 [⟨S4096x1, broadcastInDim S4096x1 ![0] bcast_S4096_S4096x1_0 g⟩, ⟨S4096x1, broadcastInDim S4096x1 ![0] bcast_S4096_S4096x1_0 q⟩]
    concatenates_S4096x1_S4096x1_S4096x2_d1

/-- The tokens, each times its weight, added where they go. -/
def outR (place : IVec S4096x2 32) (wt : FVec Ideal S4096 .f32) (tok : FVec Ideal S4096x64 .f32) : FVec Ideal S64x128x64 .f32 :=
  Host.scatterAdd scatter_S64x128x64_S4096x2_S4096x64_1_01_01_1 (broadcastInDim S64x128x64 ![] bcast_S_S64x128x64 (constant S_ .f32 0x00000000#32)) place
    (mulf tok (broadcastInDim S4096x64 ![0, 1] bcast_S4096x1_S4096x64_0_1 (broadcastInDim S4096x1 ![0] bcast_S4096_S4096x1_0 wt)))

section
variable (m : (ℓ : Loc nD τ sig) → Buf (Elt Ideal) ℓ) (c : Dev nD)

abbrev B0 : FVec Ideal S320000x128 .f32 := m ((c.tc : Thread nD τ).loc main_arg0)
abbrev B1 : IVec S320000 32 := m ((c.tc : Thread nD τ).loc main_arg1)
abbrev B2 : IVec S4096 32 := m ((c.tc : Thread nD τ).loc main_arg2)
abbrev B3 : FVec Ideal S128x64 .f32 := m ((c.tc : Thread nD τ).loc main_arg3)
abbrev B4 : FVec Ideal S64 .f32 := m ((c.tc : Thread nD τ).loc main_arg4)
abbrev B5 : FVec Ideal S64x64 .f32 := m ((c.tc : Thread nD τ).loc main_arg5)
abbrev B6 : FVec Ideal S64 .f32 := m ((c.tc : Thread nD τ).loc main_arg6)

/-- The reference's tokens. -/
def tokensR : FVec Ideal S4096x64 .f32 := tokR (maxR (B1 m c) (layersR (B0 m c) (B3 m c) (B4 m c) (B5 m c) (B6 m c)))

/-- Where the reference puts them. -/
def placesR : IVec S4096x2 32 := placeR (wrapR 64#32 (B2 m c)) (wrapR 128#32 (posR (keyR (B2 m c) flagR)))

set_option maxRecDepth 8192 in
/-- The reference's first result, by its parts. -/
theorem out0_eq : Value.res_main_v63 (F := Ideal) m c = outR (placesR m c) (uitofp .f32 (noti flagR)) (tokensR m c) := by
  unfold Value.res_main_v63
  rfl

set_option maxRecDepth 8192 in
/-- The reference's second result, by its parts. -/
theorem out1_eq : Value.res_main_v80 (F := Ideal) m c = outR (placesR m c) (uitofp .f32 flagR) (tokensR m c) := by
  unfold Value.res_main_v80
  rfl
end

/-! ## The tokens -/

theorem layersR_apply (x0 : FVec Ideal S320000x128 .f32) (x3 : FVec Ideal S128x64 .f32) (x4 : FVec Ideal S64 .f32) (x5 : FVec Ideal S64x64 .f32) (x6 : FVec Ideal S64 .f32)
    (i : Fin 320000) (f : Fin 64) :
    (layersR x0 x3 x4 x5 x6 (ix2 i f) : EReal)
      = max ((∑ k : Fin 64, (x5 (ix2 k f) : EReal) * max ((∑ d : Fin 128, (x3 (ix2 d k) : EReal) * (x0 (ix2 i d) : EReal)) + (x4 (ix1 k) : EReal)) 0) + (x6 (ix1 f) : EReal)) 0 := by
  pointwise! [layersR]

theorem ownR_apply (x1 : IVec S320000 32) (h : FVec Ideal S320000x64 .f32) (s : Fin 4096) (i : Fin 320000) (f : Fin 64) :
    (ownR x1 h (ix3 s i f) : EReal) = if x1 (ix1 i) = BitVec.ofNat 32 s.val then (h (ix2 i f) : EReal) else ⊥ := by
  have hb : Ideal.ofBits .f32 4286578688#32 = ⊥ := by simp [Ideal.ofBits, Ideal.ieee]
  have e : (ownR x1 h (ix3 s i f) : EReal) = Scalar.select (IntOp.cmpi CmpIPredicate.eq (x1 (ix1 i)) (BitVec.ofNat 32 s.val)) (h (ix2 i f) : EReal) (Ideal.ofBits .f32 4286578688#32) := by
    pointwise [ownR]
    rfl
  rw [e, hb, WordCmp.cmpi_eq_eq]
  by_cases hx : x1 (ix1 i) = BitVec.ofNat 32 s.val
  · rw [if_pos hx, decide_eq_true hx]; rfl
  · rw [if_neg hx, decide_eq_false hx]; rfl

theorem maxR_le_iff (x1 : IVec S320000 32) (h : FVec Ideal S320000x64 .f32) (s : Fin 4096) (f : Fin 64) (v : EReal) :
    (maxR x1 h (ix2 s f) : EReal) ≤ v ↔ ∀ i : Fin 320000, x1 (ix1 i) = BitVec.ofNat 32 s.val → (h (ix2 i f) : EReal) ≤ v := by
  have hb : Ideal.ofBits .f32 4286578688#32 = ⊥ := by simp [Ideal.ofBits, Ideal.ieee]
  have e : (maxR x1 h (ix2 s f) : EReal) = (Finset.univ : Finset (Fin 320000)).fold max (⊥ : EReal) fun i => (ownR x1 h (ix3 s i f) : EReal) := by
    pointwise [maxR]
    rw [hb]
  rw [e, Finset.fold_max_le]
  simp only [bot_le, Finset.mem_univ, true_implies, true_and, ownR_apply]
  refine forall_congr' fun i => ?_
  by_cases hx : x1 (ix1 i) = BitVec.ofNat 32 s.val
  · rw [if_pos hx]; exact ⟨fun g _ => g, fun g => g hx⟩
  · rw [if_neg hx]; exact ⟨fun _ g => absurd g hx, fun _ => bot_le⟩

theorem tokR_apply (r : FVec Ideal S4096x64 .f32) (s : Fin 4096) (f : Fin 64) :
    (tokR r (ix2 s f) : EReal) = if (r (ix2 s f) : EReal) = ⊥ then 0 else (r (ix2 s f) : EReal) := by
  have hb : Ideal.ofBits .f32 4286578688#32 = ⊥ := by simp [Ideal.ofBits, Ideal.ieee]
  have e : (tokR r (ix2 s f) : EReal) = if (r (ix2 s f) : EReal) = Ideal.ofBits .f32 4286578688#32 then (id (constant (F := Ideal) S_ .f32 0x00000000#32) ix0 : EReal) else (r (ix2 s f) : EReal) := by
    pointwise [tokR]
  rw [e, hb, show (id (constant (F := Ideal) S_ .f32 0x00000000#32) ix0 : EReal) = 0 from Ideal.ofBits_zero_f32]

theorem keyR_apply (x2 : IVec S4096 32) (fl : IVec S4096 1) (p : Fin 4096) : keyR x2 fl (ix1 p) = x2 (ix1 p) * 2#32 + BitVec.setWidth 32 (fl (ix1 p)) := by
  pointwise [keyR]
  rfl

theorem beforeR_iff (k : IVec S4096 32) (p q : Fin 4096) : beforeR k (ix2 p q) = 1#1 ↔ k (ix1 q) = k (ix1 p) ∧ q.val < p.val := by
  have e : beforeR k (ix2 p q) = IntOp.andi (IntOp.cmpi CmpIPredicate.slt (BitVec.ofNat 32 q.val) (BitVec.ofNat 32 p.val)) (IntOp.cmpi CmpIPredicate.eq (k (ix1 q)) (k (ix1 p))) := by
    pointwise [beforeR]
  have hs : IntOp.cmpi CmpIPredicate.slt (BitVec.ofNat 32 q.val) (BitVec.ofNat 32 p.val) = BitVec.ofBool (decide (q.val < p.val)) := by
    have hp := p.isLt
    have hq := q.isLt
    show BitVec.ofBool ((BitVec.ofNat 32 q.val).slt (BitVec.ofNat 32 p.val)) = _
    congr 1
    rw [BitVec.slt, WordCmp.toInt_ofNat_of_lt (by omega), WordCmp.toInt_ofNat_of_lt (by omega)]
    simp
  rw [e, hs, WordCmp.cmpi_eq_eq]
  by_cases h1 : q.val < p.val <;> by_cases h2 : k (ix1 q) = k (ix1 p) <;> simp [h1, h2, IntOp.andi]

theorem posR_apply (k : IVec S4096 32) (p : Fin 4096) :
    posR k (ix1 p) = BitVec.ofNat 32 (min (Finset.univ.filter fun q : Fin 4096 => k (ix1 q) = k (ix1 p) ∧ q.val < p.val).card 127) := by
  have e : posR k (ix1 p) = IntOp.minsi ((Finset.univ : Finset (Fin 4096)).fold IntOp.addi (0#32) fun q => (beforeR k (ix2 p q)).setWidth 32) 127#32 := by
    pointwise [posR]
  rw [e, IndicatorCount.fold_addi_setWidth_eq_card]
  simp only [beforeR_iff]
  generalize hn : (Finset.univ.filter fun q : Fin 4096 => k (ix1 q) = k (ix1 p) ∧ q.val < p.val).card = n
  have hlt : n ≤ 4096 := by
    rw [← hn]
    exact (Finset.card_le_univ _).trans (by simp)
  show (if (BitVec.ofNat 32 n).slt 127#32 then BitVec.ofNat 32 n else 127#32) = _
  rw [BitVec.slt, WordCmp.toInt_ofNat_of_lt (by omega)]
  by_cases h : n < 127
  · rw [if_pos (by simpa using h), min_eq_left (by omega)]
  · rw [if_neg (by simpa using h), min_eq_right (by omega)]

theorem wrapR_apply (n : BitVec 32) (v : IVec S4096 32) (p : Fin 4096) (h : 0 ≤ (v (ix1 p)).toInt) : wrapR n v (ix1 p) = v (ix1 p) := by
  have e : wrapR n v (ix1 p) = Scalar.select (IntOp.cmpi CmpIPredicate.slt (v (ix1 p)) 0#32) (IntOp.addi (v (ix1 p)) n) (v (ix1 p)) := by
    pointwise [wrapR]
  rw [e]
  have hs : IntOp.cmpi CmpIPredicate.slt (v (ix1 p)) 0#32 = 0#1 := by
    show BitVec.ofBool ((v (ix1 p)).slt 0#32) = _
    rw [BitVec.slt, decide_eq_false (by simpa using h)]
    rfl
  rw [hs]
  rfl

theorem placeR_apply (g q : IVec S4096 32) (p : Fin 4096) : placeR g q (ix2 p (0 : Fin 2)) = g (ix1 p) ∧ placeR g q (ix2 p (1 : Fin 2)) = q (ix1 p) := by
  constructor <;> pointwise [placeR]

/-! ## The scatter -/

/-- Where a token's feature goes: its group, its slot, the same feature. -/
theorem lands (place : IVec S4096x2 32) (p : Fin 4096) (f : Fin 64) (g : Fin 64) (q : Fin 128)
    (hg : (place (ix2 p (0 : Fin 2))).toInt = g.val) (hq : (place (ix2 p (1 : Fin 2))).toInt = q.val) :
    scatter_S64x128x64_S4096x2_S4096x64_1_01_01_1.resultIdx? (ix2 p f) place = some (ix3 g q f) := by
  have e0 : scatter_S64x128x64_S4096x2_S4096x64_1_01_01_1.start (ix2 p f) place 0 = g.val := by
    rw [← hg]
    show (place _).toInt = _
    congr 2
    funext a
    match a with
    | ⟨0, _⟩ => rfl
    | ⟨1, _⟩ => rfl
  have e1 : scatter_S64x128x64_S4096x2_S4096x64_1_01_01_1.start (ix2 p f) place 1 = q.val := by
    rw [← hq]
    show (place _).toInt = _
    congr 2
    funext a
    match a with
    | ⟨0, _⟩ => rfl
    | ⟨1, _⟩ => rfl
  have e2 : scatter_S64x128x64_S4096x2_S4096x64_1_01_01_1.start (ix2 p f) place 2 = 0 := rfl
  have w0 : scatter_S64x128x64_S4096x2_S4096x64_1_01_01_1.window (ix2 p f) 0 = 0 := rfl
  have w1 : scatter_S64x128x64_S4096x2_S4096x64_1_01_01_1.window (ix2 p f) 1 = 0 := rfl
  have w2 : scatter_S64x128x64_S4096x2_S4096x64_1_01_01_1.window (ix2 p f) 2 = f.val := rfl
  have hgl := g.isLt
  have hql := q.isLt
  have hfl := f.isLt
  unfold ScatterDims.resultIdx?
  rw [dif_pos]
  · congr 1
    funext a
    apply Fin.ext
    match a with
    | ⟨0, _⟩ => show (scatter_S64x128x64_S4096x2_S4096x64_1_01_01_1.start (ix2 p f) place 0 + scatter_S64x128x64_S4096x2_S4096x64_1_01_01_1.window (ix2 p f) 0).toNat = g.val; rw [e0, w0]; omega
    | ⟨1, _⟩ => show (scatter_S64x128x64_S4096x2_S4096x64_1_01_01_1.start (ix2 p f) place 1 + scatter_S64x128x64_S4096x2_S4096x64_1_01_01_1.window (ix2 p f) 1).toNat = q.val; rw [e1, w1]; omega
    | ⟨2, _⟩ => show (scatter_S64x128x64_S4096x2_S4096x64_1_01_01_1.start (ix2 p f) place 2 + scatter_S64x128x64_S4096x2_S4096x64_1_01_01_1.window (ix2 p f) 2).toNat = f.val; rw [e2, w2]; omega
  · intro a
    match a with
    | ⟨0, _⟩ =>
      show 0 ≤ scatter_S64x128x64_S4096x2_S4096x64_1_01_01_1.start (ix2 p f) place 0 + scatter_S64x128x64_S4096x2_S4096x64_1_01_01_1.window (ix2 p f) 0
        ∧ scatter_S64x128x64_S4096x2_S4096x64_1_01_01_1.start (ix2 p f) place 0 + scatter_S64x128x64_S4096x2_S4096x64_1_01_01_1.window (ix2 p f) 0 < (64 : ℕ)
      rw [e0, w0]; omega
    | ⟨1, _⟩ =>
      show 0 ≤ scatter_S64x128x64_S4096x2_S4096x64_1_01_01_1.start (ix2 p f) place 1 + scatter_S64x128x64_S4096x2_S4096x64_1_01_01_1.window (ix2 p f) 1
        ∧ scatter_S64x128x64_S4096x2_S4096x64_1_01_01_1.start (ix2 p f) place 1 + scatter_S64x128x64_S4096x2_S4096x64_1_01_01_1.window (ix2 p f) 1 < (128 : ℕ)
      rw [e1, w1]; omega
    | ⟨2, _⟩ =>
      show 0 ≤ scatter_S64x128x64_S4096x2_S4096x64_1_01_01_1.start (ix2 p f) place 2 + scatter_S64x128x64_S4096x2_S4096x64_1_01_01_1.window (ix2 p f) 2
        ∧ scatter_S64x128x64_S4096x2_S4096x64_1_01_01_1.start (ix2 p f) place 2 + scatter_S64x128x64_S4096x2_S4096x64_1_01_01_1.window (ix2 p f) 2 < (64 : ℕ)
      rw [e2, w2]; omega

/-- A result's element is the sum of the tokens that land there, each times its weight. -/
theorem outR_apply (place : IVec S4096x2 32) (wt : FVec Ideal S4096 .f32) (tok : FVec Ideal S4096x64 .f32) (G : Fin 4096 → Fin 64) (Q : Fin 4096 → Fin 128)
    (hG : ∀ p, (place (ix2 p (0 : Fin 2))).toInt = (G p).val) (hQ : ∀ p, (place (ix2 p (1 : Fin 2))).toInt = (Q p).val) (g : Fin 64) (q : Fin 128) (f : Fin 64) :
    (outR place wt tok (ix3 g q f) : EReal) = ∑ p : Fin 4096, if g = G p ∧ q = Q p then (wt (ix1 p) : EReal) * (tok (ix2 p f) : EReal) else 0 := by
  have eu : ∀ (p : Fin 4096) (f' : Fin 64), (mulf tok (broadcastInDim S4096x64 ![0, 1] bcast_S4096x1_S4096x64_0_1 (broadcastInDim S4096x1 ![0] bcast_S4096_S4096x1_0 wt)) (ix2 p f') : EReal)
      = (tok (ix2 p f') : EReal) * (wt (ix1 p) : EReal) := by
    intro p f'
    pointwise
  have e0 : ((broadcastInDim S64x128x64 ![] bcast_S_S64x128x64 (constant (F := Ideal) S_ .f32 0x00000000#32)) (ix3 g q f) : EReal) = 0 := by
    pointwise
  unfold outR
  show ((broadcastInDim S64x128x64 ![] bcast_S_S64x128x64 (constant (F := Ideal) S_ .f32 0x00000000#32)) (ix3 g q f) : EReal)
    + ∑ j ∈ Finset.univ.filter (fun j => scatter_S64x128x64_S4096x2_S4096x64_1_01_01_1.resultIdx? j place = some (ix3 g q f)),
      (mulf tok (broadcastInDim S4096x64 ![0, 1] bcast_S4096x1_S4096x64_0_1 (broadcastInDim S4096x1 ![0] bcast_S4096_S4096x1_0 wt)) j : EReal) = _
  rw [e0, zero_add, Finset.sum_filter, sum_idx2]
  refine Finset.sum_congr rfl fun p _ => ?_
  simp only [lands place p _ (G p) (Q p) (hG p) (hQ p), eu, Option.some.injEq]
  rw [Finset.sum_eq_single f]
  · by_cases h : g = G p ∧ q = Q p
    · rw [if_pos h, if_pos (by rw [h.1, h.2]), mul_comm]
    · rw [if_neg h, if_neg]
      intro e
      exact h ⟨(congrFun e 0).symm, (congrFun e 1).symm⟩
  · intro f' _ hne
    rw [if_neg]
    intro e
    exact hne (congrFun e 2)
  · intro h; exact absurd (Finset.mem_univ _) h

end Cert.ReferenceIdeal.Hand

end
-- ==== Proof.Flags.lean ====
module

public import proofs.«01_k».proof.Proof.Data
public import proofs.«01_k».proof.ReferenceIdeal

@[expose] public section

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two programs' flag tables agree. -/
theorem lits : ∀ k : Fin 4096, Cert.KernelIdeal.lit0 k = (Cert.ReferenceIdeal.lit0 k).setWidth 32 := by decide +kernel

end Cert.KernelIdeal.Hand

end
-- ==== Proof.Equal.lean ====
module

public import proofs.«01_k».proof.Proof.Out
public import proofs.«01_k».proof.Proof.Ref
public import proofs.«01_k».proof.Proof.Flags

@[expose] public section

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.ReferenceIdeal.Hand (B0 B1 B2 B3 B4 B5 B6 layersR maxR tokR tokensR flagR keyR posR wrapR placeR placesR outR)

variable (m : (ℓ : Loc nD τ sig) → Buf (Elt Ideal) ℓ) (c : Dev nD)
variable (m' : (ℓ : Loc Cert.ReferenceIdeal.nD Cert.ReferenceIdeal.τ Cert.ReferenceIdeal.sig) → Buf (Elt Ideal) ℓ)

/-- The two programs are given the same arguments. -/
structure Same : Prop where
  h0 : B0 m' c = A0 m c
  h1 : B1 m' c = A1 m c
  h2 : B2 m' c = A2 m c
  h3 : B3 m' c = A3 m c
  h4 : B4 m' c = A4 m c
  h5 : B5 m' c = A5 m c
  h6 : B6 m' c = A6 m c

variable {m c m'}

theorem flagR_apply (p : Fin 4096) : flagR (ix1 p) = Cert.ReferenceIdeal.lit0 p := by
  show Cert.ReferenceIdeal.lit0 _ = _
  congr 1
  exact Fin.ext (Shape.rowMajor_val_one (ix1 p))

theorem flags_eq (p : Fin 4096) : flags m c (ix2 (0 : Fin 1) p) = (flagR (ix1 p)).setWidth 32 := by
  rw [flags_apply, lits, flagR_apply]

theorem groups_toInt (ok : IdsOk (A1 m c) (A2 m c)) (p : Fin 4096) :
    (A2 m c (ix1 p)).toInt = (groups m c (ix2 (0 : Fin 1) p) : BitVec 32).toNat ∧ (groups m c (ix2 (0 : Fin 1) p) : BitVec 32).toNat < 64 := by
  rw [groups_apply]
  have h := ok.range2 p
  have e := BitVec.toInt_eq_toNat_cond (A2 m c (ix1 p))
  have hlt := (A2 m c (ix1 p)).isLt
  split at e <;> omega

theorem row_ok (ok : IdsOk (A1 m c) (A2 m c)) : RowOk (groups m c) (flags m c) where
  group p := (groups_toInt ok p).2
  flag p := by
    rw [flags_eq]
    rcases BitVec.eq_zero_or_eq_one (flagR (ix1 p)) with h | h <;> rw [h] <;> decide

/-! ## The tokens agree -/

theorem layers_eq (sm : Same m c m') (i : Fin 320000) (f : Fin 64) :
    (layersR (B0 m' c) (B3 m' c) (B4 m' c) (B5 m' c) (B6 m' c) (ix2 i f) : EReal) = layer m c i f := by
  rw [Cert.ReferenceIdeal.Hand.layersR_apply, sm.h0, sm.h3, sm.h4, sm.h5, sm.h6]
  rfl

theorem own_iff (x : BitVec 32) (s : Fin 4096) : x = BitVec.ofNat 32 s.val ↔ x.toInt = s.val := by
  have hs := s.isLt
  rw [← BitVec.toInt_inj, WordCmp.toInt_ofNat_of_lt (by omega)]

theorem tokens_eq (ok : IdsOk (A1 m c) (A2 m c)) (sm : Same m c m') (s : Fin 4096) (f : Fin 64) : (tokensR m' c (ix2 s f) : EReal) = token m c s f := by
  refine eq_of_forall_ge_iff fun v => ?_
  rw [token_le_iff m c ok]
  unfold tokensR
  rw [Cert.ReferenceIdeal.Hand.tokR_apply]
  have hR : ∀ v, (maxR (B1 m' c) (layersR (B0 m' c) (B3 m' c) (B4 m' c) (B5 m' c) (B6 m' c)) (ix2 s f) : EReal) ≤ v
      ↔ ∀ i : Fin 320000, (A1 m c (ix1 i)).toInt = s.val → layer m c i f ≤ v := by
    intro v
    rw [Cert.ReferenceIdeal.Hand.maxR_le_iff]
    refine forall_congr' fun i => ?_
    rw [layers_eq sm, sm.h1, own_iff]
  generalize (maxR (B1 m' c) (layersR (B0 m' c) (B3 m' c) (B4 m' c) (B5 m' c) (B6 m' c)) (ix2 s f) : EReal) = R at hR ⊢
  have hpos : ∀ i, 0 ≤ layer m c i f := fun i => le_max_right _ _
  by_cases he : ∃ i : Fin 320000, (A1 m c (ix1 i)).toInt = s.val
  · obtain ⟨i, hi⟩ := he
    have hl : layer m c i f ≤ R := (hR R).mp le_rfl i hi
    have hp := (hpos i).trans hl
    rw [if_neg (fun e => by rw [e] at hp; exact absurd hp (by simp)), hR v]
    exact ⟨fun g => ⟨(hpos i).trans (g i hi), g⟩, fun g => g.2⟩
  · have hb : R = ⊥ := le_bot_iff.mp ((hR ⊥).mpr fun i hi => absurd ⟨i, hi⟩ he)
    rw [if_pos hb]
    exact ⟨fun g => ⟨g, fun i hi => absurd ⟨i, hi⟩ he⟩, fun g => g.1⟩

/-! ## The places agree -/

theorem key_eq (sm : Same m c m') (p : Fin 4096) : keyR (B2 m' c) flagR (ix1 p) = keyAt (groups m c) (flags m c) p := by
  rw [Cert.ReferenceIdeal.Hand.keyR_apply, sm.h2]
  unfold keyAt
  rw [groups_apply, flags_eq]

theorem pos_eq (sm : Same m c m') (p : Fin 4096) : posR (keyR (B2 m' c) flagR) (ix1 p) = BitVec.ofNat 32 (slot (groups m c) (flags m c) p) := by
  rw [Cert.ReferenceIdeal.Hand.posR_apply]
  simp only [key_eq sm]
  rfl

theorem pos_toInt (sm : Same m c m') (p : Fin 4096) : (posR (keyR (B2 m' c) flagR) (ix1 p)).toInt = slot (groups m c) (flags m c) p := by
  have h := slot_lt (groups m c) (flags m c) p
  rw [pos_eq sm, WordCmp.toInt_ofNat_of_lt (by omega)]

theorem place_group (ok : IdsOk (A1 m c) (A2 m c)) (sm : Same m c m') (p : Fin 4096) :
    (placesR m' c (ix2 p (0 : Fin 2))).toInt = (groups m c (ix2 (0 : Fin 1) p) : BitVec 32).toNat := by
  unfold placesR
  rw [(Cert.ReferenceIdeal.Hand.placeR_apply _ _ p).1, Cert.ReferenceIdeal.Hand.wrapR_apply _ _ _ (by rw [sm.h2]; exact (ok.range2 p).1), sm.h2]
  exact (groups_toInt ok p).1

theorem place_slot (sm : Same m c m') (p : Fin 4096) : (placesR m' c (ix2 p (1 : Fin 2))).toInt = slot (groups m c) (flags m c) p := by
  unfold placesR
  rw [(Cert.ReferenceIdeal.Hand.placeR_apply _ _ p).2, Cert.ReferenceIdeal.Hand.wrapR_apply _ _ _ (by rw [pos_toInt sm]; omega)]
  exact pos_toInt sm p

/-! ## The weights agree -/

theorem keep_eq (p : Fin 4096) : ((uitofp .f32 (noti flagR) : FVec Ideal Cert.ReferenceIdeal.S4096 .f32) (ix1 p) : EReal) = keepWeight (flags m c) p := by
  unfold keepWeight
  rw [flags_eq]
  show (((~~~(flagR (ix1 p))).toNat : ℝ) : EReal) = (((1#32 - (flagR (ix1 p)).setWidth 32).toInt : ℝ) : EReal)
  rcases BitVec.eq_zero_or_eq_one (flagR (ix1 p)) with h | h <;> rw [h] <;> norm_num

theorem drop_eq (p : Fin 4096) : ((uitofp .f32 flagR : FVec Ideal Cert.ReferenceIdeal.S4096 .f32) (ix1 p) : EReal) = dropWeight (flags m c) p := by
  unfold dropWeight
  rw [flags_eq]
  show (((flagR (ix1 p)).toNat : ℝ) : EReal) = ((((flagR (ix1 p)).setWidth 32).toInt : ℝ) : EReal)
  rcases BitVec.eq_zero_or_eq_one (flagR (ix1 p)) with h | h <;> rw [h] <;> norm_num

/-! ## The results agree -/

/-- A row the kernel deals is the row the reference scatters, when the weights agree. -/
theorem dealt_eq (ok : IdsOk (A1 m c) (A2 m c)) (sm : Same m c m') (w : FVec Ideal Cert.ReferenceIdeal.S4096 .f32) (wt : Fin 4096 → EReal)
    (hw : ∀ p, (w (ix1 p) : EReal) = wt p) (g : Fin 64) (q : Fin 128) (f : Fin 64) :
    dealt (groups m c) (flags m c) wt (toks m c) (128 * g.val + q.val) f = (outR (placesR m' c) w (tokensR m' c) (ix3 g q f) : EReal) := by
  rw [Cert.ReferenceIdeal.Hand.outR_apply (placesR m' c) w (tokensR m' c)
    (fun p => ⟨(groups m c (ix2 (0 : Fin 1) p) : BitVec 32).toNat, (groups_toInt ok p).2⟩) (fun p => ⟨slot (groups m c) (flags m c) p, slot_lt _ _ p⟩)
    (place_group ok sm) (place_slot sm)]
  unfold dealt
  refine Finset.sum_congr rfl fun p _ => ?_
  rw [hw p, tokens_eq ok sm]
  refine if_congr ?_ rfl rfl
  have h1 := slot_lt (groups m c) (flags m c) p
  have h2 := q.isLt
  rw [Fin.ext_iff, Fin.ext_iff]
  show _ ↔ g.val = (groups m c (ix2 (0 : Fin 1) p) : BitVec 32).toNat ∧ q.val = slot (groups m c) (flags m c) p
  constructor
  · intro h; constructor <;> omega
  · rintro ⟨h3, h4⟩; omega

theorem first_eq (ok : IdsOk (A1 m c) (A2 m c)) (sm : Same m c m') :
    (Cert.ReferenceIdeal.Value.res_main_v63 (F := Ideal) m' c : Vec Ideal S64x128x64 .f32) = X5 m c (Proc.devRef .tc main_v7) := by
  rw [Cert.ReferenceIdeal.Hand.out0_eq]
  funext i
  obtain ⟨g, q, f, rfl⟩ : ∃ (g : Fin 64) (q : Fin 128) (f : Fin 64), i = ix3 g q f := ⟨i 0, i 1, i 2, eq_ix3 i⟩
  exact ((X5_v7_apply m c (row_ok ok) g q f).trans (dealt_eq ok sm _ _ (fun p => keep_eq p) g q f)).symm

theorem second_eq (ok : IdsOk (A1 m c) (A2 m c)) (sm : Same m c m') :
    (Cert.ReferenceIdeal.Value.res_main_v80 (F := Ideal) m' c : Vec Ideal S64x128x64 .f32) = X5 m c (Proc.devRef .tc main_v8) := by
  rw [Cert.ReferenceIdeal.Hand.out1_eq]
  funext i
  obtain ⟨g, q, f, rfl⟩ : ∃ (g : Fin 64) (q : Fin 128) (f : Fin 64), i = ix3 g q f := ⟨i 0, i 1, i 2, eq_ix3 i⟩
  exact ((X5_v8_apply m c (row_ok ok) g q f).trans (dealt_eq ok sm _ _ (fun p => drop_eq p) g q f)).symm

end Cert.KernelIdeal.Hand

end
-- ==== Proof.lean ====
module

public import proofs.«01_k».proof.Defs
public import proofs.«01_k».proof.Proof.Frames
public import proofs.«01_k».proof.Proof.Equal
public import proofs.«01_k».proof.Proof.Gen.ReferenceIdeal
public import proofs.«01_k».proof.Proof.Gen.ReferenceIdeal.Run
public import proofs.«01_k».proof.Proof.Gen.Pre_ids_in_range
public import proofs.«01_k».proof.Proof.Gen.Pre_ids_ok

@[expose] public section

noncomputable section

namespace Cert.Proof

open Idealize.ShloMosaic Idealize.SL.Sem

local instance kernelFacts : Cert.Kernel.Facts := Cert.Kernel.Gen.facts
local instance kernelIdealFacts : Cert.KernelIdeal.Facts := Cert.KernelIdeal.Gen.facts
local instance referenceFacts : Cert.ReferenceIdeal.Facts := Cert.ReferenceIdeal.Gen.facts
local instance rangeFacts : Cert.Pre_ids_in_range.Facts := Cert.Pre_ids_in_range.Gen.facts
local instance preFacts : Cert.Pre_ids_ok.Facts := Cert.Pre_ids_ok.Gen.facts

/-- The kernel at machine words keeps its arguments. -/
theorem frame_kernel : Cert.quiescent_Kernel := by
  intro m g h
  rw [Cert.KernelIdeal.Hand.same_defs, Cert.KernelIdeal.Hand.same_main]
  exact Cert.KernelIdeal.Hand.frame_of_range (F := Bits) m g fun c i => Cert.KernelIdeal.Hand.ids_in_range_of (h c) i

/-- The kernel at ideal numbers keeps its arguments. -/
theorem frame_kernelIdeal : Cert.quiescent_KernelIdeal := by
  intro m g h
  exact Cert.KernelIdeal.Hand.frame_of_range (F := Ideal) m g fun c i => Cert.KernelIdeal.Hand.ids_in_range_of (h c) i

/-- The same under the algebraic claim's precondition. -/
theorem frame_kernelIdeal_ok : Cert.quiescent_KernelIdeal_pre_ids_ok := by
  intro m g h
  exact Cert.KernelIdeal.Hand.frame_of_range (F := Ideal) m g fun c => (Cert.KernelIdeal.Hand.ids_ok_of (h c)).range

/-- The reference keeps its arguments; it has no semaphore. -/
theorem frame_reference : Cert.quiescent_ReferenceIdeal := by
  intro m g _
  exact (θ_run Cert.ReferenceIdeal.defs _ _).mono (fun r h => ⟨fun c => (h c).2.2, sem_eq_zero_of_no_sems (by decide) r.2⟩) (Cert.ReferenceIdeal.Value.run (F := Ideal) m g)

/-- The same under the algebraic claim's precondition. -/
theorem frame_reference_ok : Cert.quiescent_ReferenceIdeal_pre_ids_ok := fun m g _ => frame_reference m g trivial

/-- From equal arguments the kernel and the reference, at ideal numbers, end with equal results. -/
theorem algebraic : Cert.algebraic_KernelIdeal_ReferenceIdeal_pre_ids_ok := by
  intro m g m' g' h hm
  refine ⟨fun c => Cert.KernelIdeal.Hand.X5 m c (Proc.devRef .tc Cert.KernelIdeal.main_v7), fun c => Cert.KernelIdeal.Hand.X5 m c (Proc.devRef .tc Cert.KernelIdeal.main_v8), ?_, ?_⟩
  · exact (θ_run Cert.KernelIdeal.defs _ _).mono (fun r hr c => ⟨(hr.1 c).2.1, (hr.1 c).2.2, (hr.1 c).1 _ (by simp), (hr.1 c).1 _ (by simp), (hr.1 c).1 _ (by simp),
      (hr.1 c).1 _ (by simp), (hr.1 c).1 _ (by simp), (hr.1 c).1 _ (by simp), (hr.1 c).1 _ (by simp)⟩) (Cert.KernelIdeal.Hand.run_of_range (F := Ideal) m g fun c => (Cert.KernelIdeal.Hand.ids_ok_of (h c)).range)
  · refine (θ_run Cert.ReferenceIdeal.defs _ _).mono (fun r hr c => ?_) (Cert.ReferenceIdeal.Value.run (F := Ideal) m' g')
    have ok := Cert.KernelIdeal.Hand.ids_ok_of (h c)
    have e := hm c
    have sm : Cert.KernelIdeal.Hand.Same m c m' := ⟨e.1, e.2.1, e.2.2.1, e.2.2.2.1, e.2.2.2.2.1, e.2.2.2.2.2.1, e.2.2.2.2.2.2⟩
    exact ⟨(hr c).1.trans (Cert.KernelIdeal.Hand.first_eq ok sm), (hr c).2.1.trans (Cert.KernelIdeal.Hand.second_eq ok sm), (hr c).2.2⟩

theorem claim : Cert.Claim := ⟨Cert.Kernel.Gen.facts, Cert.KernelIdeal.Gen.facts, Cert.ReferenceIdeal.Gen.facts, Cert.Pre_ids_in_range.Gen.facts, Cert.Pre_ids_ok.Gen.facts,
  frame_kernel, frame_kernelIdeal, frame_kernelIdeal_ok, frame_reference, frame_reference_ok, trivial, algebraic⟩

end Cert.Proof

end
